-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_within_clip_ClippedIdeal [hPre_within_clip_ClippedIdeal : Cert.Pre_within_clip_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_within_clip_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_within_clip_ClippedIdeal [hClippedIdeal : Cert.ClippedIdeal.Facts] [hPre_within_clip_ClippedIdeal : Cert.Pre_within_clip_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_within_clip_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_within_clip_KernelIdeal [hKernelIdeal : Cert.KernelIdeal.Facts] [hClippedIdeal : Cert.ClippedIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_within_clip_KernelIdeal : Cert.Pre_within_clip_KernelIdeal.Facts) (hPre_within_clip_ClippedIdeal : Cert.Pre_within_clip_ClippedIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ClippedIdeal (hClippedIdeal := hClippedIdeal)
    ∧ quiescent_ClippedIdeal_pre_within_clip_ClippedIdeal (hClippedIdeal := hClippedIdeal) (hPre_within_clip_ClippedIdeal := hPre_within_clip_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_within_clip_KernelIdeal (hKernelIdeal := hKernelIdeal) (hClippedIdeal := hClippedIdeal) (hPre_within_clip_KernelIdeal := hPre_within_clip_KernelIdeal)
-- ==== Pre_within_clip_ClippedIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S_ 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  let main_c : IVec S_ 1 := constantI S_ 1 1#1
  let main_v4 : IVec S_ 1 := (fun x v => Host.reduce IntOp.andi x v reducesTo_S4096x2048_S_d0_1 h_S_) main_v3 main_c
  main_v4
-- ==== Pre_within_clip_KernelIdeal.lean ====
abbrev S1024x4096 : Shape := ⟨2, ![1024, 4096]⟩
abbrev S4096x2048 : Shape := ⟨2, ![4096, 2048]⟩
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  dot_S1024x4096_S4096x2048_S1024x2048_1_0_0_1_n_n_wf : DotDims.WF S1024x4096 S4096x2048 S1024x2048 [1] [0] [0] [1] [] []

variable [Facts]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def fn {F : FTy → Type} [FloatOps F] (main_arg0 : FVec F S1024x4096 .f32) (main_arg1 : FVec F S4096x2048 .f32) : IVec S_ 1 :=
  let main_v0 : FVec F S1024x2048 .f32 := (fun l r => Host.dotGeneral dot_S1024x4096_S4096x2048_S1024x2048_1_0_0_1_n_n none l r) main_arg0 main_arg1
  let main_v1 : FVec F S1024x2048 .f32 := Host.absf main_v0
  let main_cst : FVec F S_ .f32 := constant S_ .f32 0x42700000#32
  let main_v2 : FVec F S1024x2048 .f32 := broadcastInDim S1024x2048 ![] bcast_S_S1024x2048 main_cst
  let main_v3 : IVec S1024x2048 1 := cmpf .ole main_v1 main_v2
  let main_c : IVec S_ 1 := constantI S_ 1 1#1
  let main_v4 : IVec S_ 1 := (fun x v => Host.reduce IntOp.andi x v reducesTo_S1024x2048_S_d0_1 h_S_) main_v3 main_c
  main_v4
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x256x4096 : Shape := ⟨3, ![2, 256, 4096]⟩
abbrev S2x4096x512 : Shape := ⟨3, ![2, 4096, 512]⟩
abbrev S3x1024x512 : Shape := ⟨3, ![3, 1024, 512]⟩
abbrev S2 : Shape := ⟨1, ![2]⟩
abbrev S3x4 : Shape := ⟨2, ![3, 4]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x4096x512 : Shape := ⟨3, ![1, 4096, 512]⟩
abbrev S256x512 : Shape := ⟨2, ![256, 512]⟩
abbrev S1x256x512 : Shape := ⟨3, ![1, 256, 512]⟩
abbrev S1x1 : Shape := ⟨2, ![1, 1]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S4096x512, .f32⟩
  | .local _ .vmem, ⟨1, _⟩ => ⟨S2x256x4096, .f32⟩
  | .local _ .vmem, ⟨2, _⟩ => ⟨S1024x4096, .bf16⟩
  | .local _ .vmem, ⟨3, _⟩ => ⟨S2x4096x512, .f32⟩
  | .local _ .vmem, ⟨4, _⟩ => ⟨S3x1024x512, .bf16⟩
  | .local _ .vmem, ⟨5, _⟩ => ⟨S3x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let c0_i32_6 : BitVec 32 := 0#32
  let v9 : BitVec 1 := Scalar.cmpi .eq c4_i32_5 c0_i32_6
  let c1_i32_7 : BitVec 32 := 1#32
  let v10 : BitVec 32 := Scalar.select v9 c1_i32_7 c4_i32_5
  let v11 : BitVec 32 := Scalar.remsi v8 v10
  let c0_i32_9 : BitVec 32 := 0#32
  let v13 : BitVec 1 := Scalar.cmpi .slt v11 c0_i32_9
  let c0_i32_10 : BitVec 32 := 0#32
  let v14 : BitVec 1 := Scalar.cmpi .slt v10 c0_i32_10
  let v15 : BitVec 1 := Scalar.xori v13 v14
  let c0_i32_8 : BitVec 32 := 0#32
  let v12 : BitVec 1 := Scalar.cmpi .ne v11 c0_i32_8
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  ![0, v19.toNat]
def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v26 : BitVec 32 := Scalar.addi v2 c1_i32_16
  let c4_i32_17 : BitVec 32 := 4#32
  let c0_i32_18 : BitVec 32 := 0#32
  let v27 : BitVec 1 := Scalar.cmpi .eq c4_i32_17 c0_i32_18
  let c1_i32_19 : BitVec 32 := 1#32
  let v28 : BitVec 32 := Scalar.select v27 c1_i32_19 c4_i32_17
  let v29 : BitVec 32 := Scalar.remsi v26 v28
  let c0_i32_21 : BitVec 32 := 0#32
  let v31 : BitVec 1 := Scalar.cmpi .slt v29 c0_i32_21
  let c0_i32_22 : BitVec 32 := 0#32
  let v32 : BitVec 1 := Scalar.cmpi .slt v28 c0_i32_22
  let v33 : BitVec 1 := Scalar.xori v31 v32
  let c0_i32_20 : BitVec 32 := 0#32
  let v30 : BitVec 1 := Scalar.cmpi .ne v29 c0_i32_20
  let v34 : BitVec 1 := Scalar.andi v33 v30
  let v35 : BitVec 32 := Scalar.addi v29 v28
  let v36 : BitVec 32 := Scalar.select v34 v35 v29
  let c1_i32_24 : BitVec 32 := 1#32
  let v37 : BitVec 32 := Scalar.muli v36 c1_i32_24
  let v38 : BitVec 32 := Scalar.addi c0_i32_25 v37
  v38.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_26 : BitVec 32 := 2#32
  let v39 : BitVec 32 := Scalar.addi v2 c2_i32_26
  let c4_i32_27 : BitVec 32 := 4#32
  let c0_i32_28 : BitVec 32 := 0#32
  let v40 : BitVec 1 := Scalar.cmpi .eq c4_i32_27 c0_i32_28
  let c1_i32_29 : BitVec 32 := 1#32
  let v41 : BitVec 32 := Scalar.select v40 c1_i32_29 c4_i32_27
  let v42 : BitVec 32 := Scalar.remsi v39 v41
  let c0_i32_31 : BitVec 32 := 0#32
  let v44 : BitVec 1 := Scalar.cmpi .slt v42 c0_i32_31
  let c0_i32_32 : BitVec 32 := 0#32
  let v45 : BitVec 1 := Scalar.cmpi .slt v41 c0_i32_32
  let v46 : BitVec 1 := Scalar.xori v44 v45
  let c0_i32_30 : BitVec 32 := 0#32
  let v43 : BitVec 1 := Scalar.cmpi .ne v42 c0_i32_30
  let v47 : BitVec 1 := Scalar.andi v46 v43
  let v48 : BitVec 32 := Scalar.addi v42 v41
  let v49 : BitVec 32 := Scalar.select v47 v48 v42
  let c1_i32_34 : BitVec 32 := 1#32
  let v50 : BitVec 32 := Scalar.muli v49 c1_i32_34
  let v51 : BitVec 32 := Scalar.addi c0_i32_35 v50
  v51.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v52 : BitVec 32 := Scalar.addi v2 c3_i32
  let c4_i32_36 : BitVec 32 := 4#32
  let c0_i32_37 : BitVec 32 := 0#32
  let v53 : BitVec 1 := Scalar.cmpi .eq c4_i32_36 c0_i32_37
  let c1_i32_38 : BitVec 32 := 1#32
  let v54 : BitVec 32 := Scalar.select v53 c1_i32_38 c4_i32_36
  let v55 : BitVec 32 := Scalar.remsi v52 v54
  let c0_i32_40 : BitVec 32 := 0#32
  let v57 : BitVec 1 := Scalar.cmpi .slt v55 c0_i32_40
  let c0_i32_41 : BitVec 32 := 0#32
  let v58 : BitVec 1 := Scalar.cmpi .slt v54 c0_i32_41
  let v59 : BitVec 1 := Scalar.xori v57 v58
  let c0_i32_39 : BitVec 32 := 0#32
  let v56 : BitVec 1 := Scalar.cmpi .ne v55 c0_i32_39
  let v60 : BitVec 1 := Scalar.andi v59 v56
  let v61 : BitVec 32 := Scalar.addi v55 v54
  let v62 : BitVec 32 := Scalar.select v60 v61 v55
  let c1_i32_43 : BitVec 32 := 1#32
  let v63 : BitVec 32 := Scalar.muli v62 c1_i32_43
  let v64 : BitVec 32 := Scalar.addi c0_i32_44 v63
  v64.toNat
def k0_dev4 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_92 : BitVec 32 := 2#32
  let v125 : BitVec 32 := Scalar.addi v2 c2_i32_92
  let c4_i32_93 : BitVec 32 := 4#32
  let c0_i32_94 : BitVec 32 := 0#32
  let v126 : BitVec 1 := Scalar.cmpi .eq c4_i32_93 c0_i32_94
  let c1_i32_95 : BitVec 32 := 1#32
  let v127 : BitVec 32 := Scalar.select v126 c1_i32_95 c4_i32_93
  let v128 : BitVec 32 := Scalar.remsi v125 v127
  let c0_i32_97 : BitVec 32 := 0#32
  let v130 : BitVec 1 := Scalar.cmpi .slt v128 c0_i32_97
  let c0_i32_98 : BitVec 32 := 0#32
  let v131 : BitVec 1 := Scalar.cmpi .slt v127 c0_i32_98
  let v132 : BitVec 1 := Scalar.xori v130 v131
  let c0_i32_96 : BitVec 32 := 0#32
  let v129 : BitVec 1 := Scalar.cmpi .ne v128 c0_i32_96
  let v133 : BitVec 1 := Scalar.andi v132 v129
  let v134 : BitVec 32 := Scalar.addi v128 v127
  let v135 : BitVec 32 := Scalar.select v133 v134 v128
  let c1_i32_105 : BitVec 32 := 1#32
  let v136 : BitVec 32 := Scalar.muli v135 c1_i32_105
  let v137 : BitVec 32 := Scalar.addi c0_i32_106 v136
  v137.toNat
def k0_dev5 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_131 : BitVec 32 := 2#32
  let v169 : BitVec 32 := Scalar.addi v2 c2_i32_131
  let c4_i32_132 : BitVec 32 := 4#32
  let c0_i32_133 : BitVec 32 := 0#32
  let v170 : BitVec 1 := Scalar.cmpi .eq c4_i32_132 c0_i32_133
  let c1_i32_134 : BitVec 32 := 1#32
  let v171 : BitVec 32 := Scalar.select v170 c1_i32_134 c4_i32_132
  let v172 : BitVec 32 := Scalar.remsi v169 v171
  let c0_i32_136 : BitVec 32 := 0#32
  let v174 : BitVec 1 := Scalar.cmpi .slt v172 c0_i32_136
  let c0_i32_137 : BitVec 32 := 0#32
  let v175 : BitVec 1 := Scalar.cmpi .slt v171 c0_i32_137
  let v176 : BitVec 1 := Scalar.xori v174 v175
  let c0_i32_135 : BitVec 32 := 0#32
  let v173 : BitVec 1 := Scalar.cmpi .ne v172 c0_i32_135
  let v177 : BitVec 1 := Scalar.andi v176 v173
  let v178 : BitVec 32 := Scalar.addi v172 v171
  let v179 : BitVec 32 := Scalar.select v177 v178 v172
  let c1_i32_144 : BitVec 32 := 1#32
  let v180 : BitVec 32 := Scalar.muli v179 c1_i32_144
  let v181 : BitVec 32 := Scalar.addi c0_i32_145 v180
  v181.toNat
def k0_dev6 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_169 : BitVec 32 := 2#32
  let v213 : BitVec 32 := Scalar.addi v2 c2_i32_169
  let c4_i32_170 : BitVec 32 := 4#32
  let c0_i32_171 : BitVec 32 := 0#32
  let v214 : BitVec 1 := Scalar.cmpi .eq c4_i32_170 c0_i32_171
  let c1_i32_172 : BitVec 32 := 1#32
  let v215 : BitVec 32 := Scalar.select v214 c1_i32_172 c4_i32_170
  let v216 : BitVec 32 := Scalar.remsi v213 v215
  let c0_i32_174 : BitVec 32 := 0#32
  let v218 : BitVec 1 := Scalar.cmpi .slt v216 c0_i32_174
  let c0_i32_175 : BitVec 32 := 0#32
  let v219 : BitVec 1 := Scalar.cmpi .slt v215 c0_i32_175
  let v220 : BitVec 1 := Scalar.xori v218 v219
  let c0_i32_173 : BitVec 32 := 0#32
  let v217 : BitVec 1 := Scalar.cmpi .ne v216 c0_i32_173
  let v221 : BitVec 1 := Scalar.andi v220 v217
  let v222 : BitVec 32 := Scalar.addi v216 v215
  let v223 : BitVec 32 := Scalar.select v221 v222 v216
  let c1_i32_182 : BitVec 32 := 1#32
  let v224 : BitVec 32 := Scalar.muli v223 c1_i32_182
  let v225 : BitVec 32 := Scalar.addi c0_i32_183 v224
  v225.toNat
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_202 : BitVec 32 := 2#32
  let v252 : BitVec 32 := Scalar.addi v2 c2_i32_202
  let c4_i32_203 : BitVec 32 := 4#32
  let c0_i32_204 : BitVec 32 := 0#32
  let v253 : BitVec 1 := Scalar.cmpi .eq c4_i32_203 c0_i32_204
  let c1_i32_205 : BitVec 32 := 1#32
  let v254 : BitVec 32 := Scalar.select v253 c1_i32_205 c4_i32_203
  let v255 : BitVec 32 := Scalar.remsi v252 v254
  let c0_i32_207 : BitVec 32 := 0#32
  let v257 : BitVec 1 := Scalar.cmpi .slt v255 c0_i32_207
  let c0_i32_208 : BitVec 32 := 0#32
  let v258 : BitVec 1 := Scalar.cmpi .slt v254 c0_i32_208
  let v259 : BitVec 1 := Scalar.xori v257 v258
  let c0_i32_206 : BitVec 32 := 0#32
  let v256 : BitVec 1 := Scalar.cmpi .ne v255 c0_i32_206
  let v260 : BitVec 1 := Scalar.andi v259 v256
  let v261 : BitVec 32 := Scalar.addi v255 v254
  let v262 : BitVec 32 := Scalar.select v260 v261 v255
  let c1_i32_215 : BitVec 32 := 1#32
  let v263 : BitVec 32 := Scalar.muli v262 c1_i32_215
  let v264 : BitVec 32 := Scalar.addi c0_i32_216 v263
  v264.toNat
def k0_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_256 : BitVec 32 := 1#32
  let v318 : BitVec 32 := Scalar.addi v2 c1_i32_256
  let c4_i32_257 : BitVec 32 := 4#32
  let c0_i32_258 : BitVec 32 := 0#32
  let v319 : BitVec 1 := Scalar.cmpi .eq c4_i32_257 c0_i32_258
  let c1_i32_259 : BitVec 32 := 1#32
  let v320 : BitVec 32 := Scalar.select v319 c1_i32_259 c4_i32_257
  let v321 : BitVec 32 := Scalar.remsi v318 v320
  let c0_i32_261 : BitVec 32 := 0#32
  let v323 : BitVec 1 := Scalar.cmpi .slt v321 c0_i32_261
  let c0_i32_262 : BitVec 32 := 0#32
  let v324 : BitVec 1 := Scalar.cmpi .slt v320 c0_i32_262
  let v325 : BitVec 1 := Scalar.xori v323 v324
  let c0_i32_260 : BitVec 32 := 0#32
  let v322 : BitVec 1 := Scalar.cmpi .ne v321 c0_i32_260
  let v326 : BitVec 1 := Scalar.andi v325 v322
  let v327 : BitVec 32 := Scalar.addi v321 v320
  let v328 : BitVec 32 := Scalar.select v326 v327 v321
  let c1_i32_269 : BitVec 32 := 1#32
  let v329 : BitVec 32 := Scalar.muli v328 c1_i32_269
  let v330 : BitVec 32 := Scalar.addi c0_i32_270 v329
  v330.toNat
def k0_dev9 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_281 : BitVec 32 := 1#32
  let v347 : BitVec 32 := Scalar.addi v2 c1_i32_281
  let c4_i32_282 : BitVec 32 := 4#32
  let c0_i32_283 : BitVec 32 := 0#32
  let v348 : BitVec 1 := Scalar.cmpi .eq c4_i32_282 c0_i32_283
  let c1_i32_284 : BitVec 32 := 1#32
  let v349 : BitVec 32 := Scalar.select v348 c1_i32_284 c4_i32_282
  let v350 : BitVec 32 := Scalar.remsi v347 v349
  let c0_i32_286 : BitVec 32 := 0#32
  let v352 : BitVec 1 := Scalar.cmpi .slt v350 c0_i32_286
  let c0_i32_287 : BitVec 32 := 0#32
  let v353 : BitVec 1 := Scalar.cmpi .slt v349 c0_i32_287
  let v354 : BitVec 1 := Scalar.xori v352 v353
  let c0_i32_285 : BitVec 32 := 0#32
  let v351 : BitVec 1 := Scalar.cmpi .ne v350 c0_i32_285
  let v355 : BitVec 1 := Scalar.andi v354 v351
  let v356 : BitVec 32 := Scalar.addi v350 v349
  let v357 : BitVec 32 := Scalar.select v355 v356 v350
  let c1_i32_294 : BitVec 32 := 1#32
  let v358 : BitVec 32 := Scalar.muli v357 c1_i32_294
  let v359 : BitVec 32 := Scalar.addi c0_i32_295 v358
  v359.toNat
def k0_dev10 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_306 : BitVec 32 := 1#32
  let v376 : BitVec 32 := Scalar.addi v2 c1_i32_306
  let c4_i32_307 : BitVec 32 := 4#32
  let c0_i32_308 : BitVec 32 := 0#32
  let v377 : BitVec 1 := Scalar.cmpi .eq c4_i32_307 c0_i32_308
  let c1_i32_309 : BitVec 32 := 1#32
  let v378 : BitVec 32 := Scalar.select v377 c1_i32_309 c4_i32_307
  let v379 : BitVec 32 := Scalar.remsi v376 v378
  let c0_i32_311 : BitVec 32 := 0#32
  let v381 : BitVec 1 := Scalar.cmpi .slt v379 c0_i32_311
  let c0_i32_312 : BitVec 32 := 0#32
  let v382 : BitVec 1 := Scalar.cmpi .slt v378 c0_i32_312
  let v383 : BitVec 1 := Scalar.xori v381 v382
  let c0_i32_310 : BitVec 32 := 0#32
  let v380 : BitVec 1 := Scalar.cmpi .ne v379 c0_i32_310
  let v384 : BitVec 1 := Scalar.andi v383 v380
  let v385 : BitVec 32 := Scalar.addi v379 v378
  let v386 : BitVec 32 := Scalar.select v384 v385 v379
  let c1_i32_319 : BitVec 32 := 1#32
  let v387 : BitVec 32 := Scalar.muli v386 c1_i32_319
  let v388 : BitVec 32 := Scalar.addi c0_i32_320 v387
  v388.toNat
def k0_dev11 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_331 : BitVec 32 := 1#32
  let v405 : BitVec 32 := Scalar.addi v2 c1_i32_331
  let c4_i32_332 : BitVec 32 := 4#32
  let c0_i32_333 : BitVec 32 := 0#32
  let v406 : BitVec 1 := Scalar.cmpi .eq c4_i32_332 c0_i32_333
  let c1_i32_334 : BitVec 32 := 1#32
  let v407 : BitVec 32 := Scalar.select v406 c1_i32_334 c4_i32_332
  let v408 : BitVec 32 := Scalar.remsi v405 v407
  let c0_i32_336 : BitVec 32 := 0#32
  let v410 : BitVec 1 := Scalar.cmpi .slt v408 c0_i32_336
  let c0_i32_337 : BitVec 32 := 0#32
  let v411 : BitVec 1 := Scalar.cmpi .slt v407 c0_i32_337
  let v412 : BitVec 1 := Scalar.xori v410 v411
  let c0_i32_335 : BitVec 32 := 0#32
  let v409 : BitVec 1 := Scalar.cmpi .ne v408 c0_i32_335
  let v413 : BitVec 1 := Scalar.andi v412 v409
  let v414 : BitVec 32 := Scalar.addi v408 v407
  let v415 : BitVec 32 := Scalar.select v413 v414 v408
  let c1_i32_344 : BitVec 32 := 1#32
  let v416 : BitVec 32 := Scalar.muli v415 c1_i32_344
  let v417 : BitVec 32 := Scalar.addi c0_i32_345 v416
  v417.toNat
def k0_dev12 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_384 : BitVec 32 := 3#32
  let v471 : BitVec 32 := Scalar.addi v2 c3_i32_384
  let c4_i32_385 : BitVec 32 := 4#32
  let c0_i32_386 : BitVec 32 := 0#32
  let v472 : BitVec 1 := Scalar.cmpi .eq c4_i32_385 c0_i32_386
  let c1_i32_387 : BitVec 32 := 1#32
  let v473 : BitVec 32 := Scalar.select v472 c1_i32_387 c4_i32_385
  let v474 : BitVec 32 := Scalar.remsi v471 v473
  let c0_i32_389 : BitVec 32 := 0#32
  let v476 : BitVec 1 := Scalar.cmpi .slt v474 c0_i32_389
  let c0_i32_390 : BitVec 32 := 0#32
  let v477 : BitVec 1 := Scalar.cmpi .slt v473 c0_i32_390
  let v478 : BitVec 1 := Scalar.xori v476 v477
  let c0_i32_388 : BitVec 32 := 0#32
  let v475 : BitVec 1 := Scalar.cmpi .ne v474 c0_i32_388
  let v479 : BitVec 1 := Scalar.andi v478 v475
  let v480 : BitVec 32 := Scalar.addi v474 v473
  let v481 : BitVec 32 := Scalar.select v479 v480 v474
  let c1_i32_397 : BitVec 32 := 1#32
  let v482 : BitVec 32 := Scalar.muli v481 c1_i32_397
  let v483 : BitVec 32 := Scalar.addi c0_i32_398 v482
  v483.toNat
def k0_dev13 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_409 : BitVec 32 := 3#32
  let v500 : BitVec 32 := Scalar.addi v2 c3_i32_409
  let c4_i32_410 : BitVec 32 := 4#32
  let c0_i32_411 : BitVec 32 := 0#32
  let v501 : BitVec 1 := Scalar.cmpi .eq c4_i32_410 c0_i32_411
  let c1_i32_412 : BitVec 32 := 1#32
  let v502 : BitVec 32 := Scalar.select v501 c1_i32_412 c4_i32_410
  let v503 : BitVec 32 := Scalar.remsi v500 v502
  let c0_i32_414 : BitVec 32 := 0#32
  let v505 : BitVec 1 := Scalar.cmpi .slt v503 c0_i32_414
  let c0_i32_415 : BitVec 32 := 0#32
  let v506 : BitVec 1 := Scalar.cmpi .slt v502 c0_i32_415
  let v507 : BitVec 1 := Scalar.xori v505 v506
  let c0_i32_413 : BitVec 32 := 0#32
  let v504 : BitVec 1 := Scalar.cmpi .ne v503 c0_i32_413
  let v508 : BitVec 1 := Scalar.andi v507 v504
  let v509 : BitVec 32 := Scalar.addi v503 v502
  let v510 : BitVec 32 := Scalar.select v508 v509 v503
  let c1_i32_422 : BitVec 32 := 1#32
  let v511 : BitVec 32 := Scalar.muli v510 c1_i32_422
  let v512 : BitVec 32 := Scalar.addi c0_i32_423 v511
  v512.toNat
def k0_dev14 (d0 : Dev nD) : Nat :=
  let c0_i32_448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_434 : BitVec 32 := 3#32
  let v529 : BitVec 32 := Scalar.addi v2 c3_i32_434
  let c4_i32_435 : BitVec 32 := 4#32
  let c0_i32_436 : BitVec 32 := 0#32
  let v530 : BitVec 1 := Scalar.cmpi .eq c4_i32_435 c0_i32_436
  let c1_i32_437 : BitVec 32 := 1#32
  let v531 : BitVec 32 := Scalar.select v530 c1_i32_437 c4_i32_435
  let v532 : BitVec 32 := Scalar.remsi v529 v531
  let c0_i32_439 : BitVec 32 := 0#32
  let v534 : BitVec 1 := Scalar.cmpi .slt v532 c0_i32_439
  let c0_i32_440 : BitVec 32 := 0#32
  let v535 : BitVec 1 := Scalar.cmpi .slt v531 c0_i32_440
  let v536 : BitVec 1 := Scalar.xori v534 v535
  let c0_i32_438 : BitVec 32 := 0#32
  let v533 : BitVec 1 := Scalar.cmpi .ne v532 c0_i32_438
  let v537 : BitVec 1 := Scalar.andi v536 v533
  let v538 : BitVec 32 := Scalar.addi v532 v531
  let v539 : BitVec 32 := Scalar.select v537 v538 v532
  let c1_i32_447 : BitVec 32 := 1#32
  let v540 : BitVec 32 := Scalar.muli v539 c1_i32_447
  let v541 : BitVec 32 := Scalar.addi c0_i32_448 v540
  v541.toNat
def k0_dev15 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_459 : BitVec 32 := 3#32
  let v558 : BitVec 32 := Scalar.addi v2 c3_i32_459
  let c4_i32_460 : BitVec 32 := 4#32
  let c0_i32_461 : BitVec 32 := 0#32
  let v559 : BitVec 1 := Scalar.cmpi .eq c4_i32_460 c0_i32_461
  let c1_i32_462 : BitVec 32 := 1#32
  let v560 : BitVec 32 := Scalar.select v559 c1_i32_462 c4_i32_460
  let v561 : BitVec 32 := Scalar.remsi v558 v560
  let c0_i32_464 : BitVec 32 := 0#32
  let v563 : BitVec 1 := Scalar.cmpi .slt v561 c0_i32_464
  let c0_i32_465 : BitVec 32 := 0#32
  let v564 : BitVec 1 := Scalar.cmpi .slt v560 c0_i32_465
  let v565 : BitVec 1 := Scalar.xori v563 v564
  let c0_i32_463 : BitVec 32 := 0#32
  let v562 : BitVec 1 := Scalar.cmpi .ne v561 c0_i32_463
  let v566 : BitVec 1 := Scalar.andi v565 v562
  let v567 : BitVec 32 := Scalar.addi v561 v560
  let v568 : BitVec 32 := Scalar.select v566 v567 v561
  let c1_i32_472 : BitVec 32 := 1#32
  let v569 : BitVec 32 := Scalar.muli v568 c1_i32_472
  let v570 : BitVec 32 := Scalar.addi c0_i32_473 v569
  v570.toNat
def k0_off2 (d0 : Dev nD) (c0_i32_497 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v603 : BitVec 32 := Scalar.muli v2 c1024_i32
  let v604 : BitVec 32 := Scalar.addi v603 c0_i32_497
  let v605 : Index := Scalar.indexCast v604
  let c0_498 : Index := 0#32
  ![v605.toNat, 0]
def k0_off3 (d0 : Dev nD) (c2_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v663 : BitVec 32 := Scalar.addi v2 c2_i32_565
  let c4_i32_566 : BitVec 32 := 4#32
  let c0_i32_567 : BitVec 32 := 0#32
  let v664 : BitVec 1 := Scalar.cmpi .eq c4_i32_566 c0_i32_567
  let c1_i32_568 : BitVec 32 := 1#32
  let v665 : BitVec 32 := Scalar.select v664 c1_i32_568 c4_i32_566
  let v666 : BitVec 32 := Scalar.remsi v663 v665
  let c0_i32_570 : BitVec 32 := 0#32
  let v668 : BitVec 1 := Scalar.cmpi .slt v666 c0_i32_570
  let c0_i32_571 : BitVec 32 := 0#32
  let v669 : BitVec 1 := Scalar.cmpi .slt v665 c0_i32_571
  let v670 : BitVec 1 := Scalar.xori v668 v669
  let c0_i32_569 : BitVec 32 := 0#32
  let v667 : BitVec 1 := Scalar.cmpi .ne v666 c0_i32_569
  let v671 : BitVec 1 := Scalar.andi v670 v667
  let v672 : BitVec 32 := Scalar.addi v666 v665
  let v673 : BitVec 32 := Scalar.select v671 v672 v666
  let c1024_i32_575 : BitVec 32 := 1024#32
  let v677 : BitVec 32 := Scalar.muli v673 c1024_i32_575
  let v678 : Index := Scalar.indexCast v677
  let c0_576 : Index := 0#32
  ![v678.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Protocol.lean ====
/-
The protocol of the kernel: which cells the four devices signal and wait on, what each signal hands over, what each
device owes, and in which order of levels the waits stand.

Every device signals the barrier of its three peers once, handing each the slab of its landing buffer that the peer will
copy into, and waits for three signals.  It then sends twelve blocks (four row quarters to each of three peers); a copy
lands on one receive semaphore of the peer and departs on one send semaphore of its own.  The copies from HBM are local and
keep to one counter each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The kernel's own rounds algebra: at most three duties a round. -/
abbrev UB : Type := URounds (GSem nD τ sig) (Fin 3)
/-- The user algebra: the pipeline library's copy, the kernel's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance
abbrev EC : UEmb Counters (MT nD τ sig Unit (Elt F) ℕ UU ℕ) := countersEmb

/-- The memory at launch: any contents, every counter zero. -/
def s₀ (m : (ℓ : Loc nD τ sig) → Buf (Elt F) ℓ) (ρ : Dev nD → PrngReg) : MemSt nD τ sig (Elt F) := ⟨m, fun _ => 0, ρ⟩

/-! ## The devices around the mesh -/

set_option backward.proofsInPublic true in
/-- The device `a + 1` places after `c`. -/
def peer (c : Dev nD) (a : Fin 3) : Dev nD := ⟨(c.val + a.val + 1) % 4, Nat.mod_lt _ (by decide)⟩

/-- The distance back. -/
abbrev rev (a : Fin 3) : Fin 3 := Fin.rev a

theorem peer_rev (c : Dev nD) (a : Fin 3) : peer (peer c a) (rev a) = c := by revert c a; decide
theorem peer_rev' (c : Dev nD) (a : Fin 3) : peer (peer c (rev a)) a = c := by revert c a; decide
theorem rev_rev (a : Fin 3) : rev (rev a) = a := Fin.rev_rev a

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 1 := by revert c; decide +kernel
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 0 := by revert c; decide +kernel
theorem dev10_eq (c : Dev nD) : (⟨k0_dev10 c, k0_dev10_lt c⟩ : Dev nD) = peer c 0 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 2 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 2 := by revert c; decide +kernel
theorem dev15_eq (c : Dev nD) : (⟨k0_dev15 c, k0_dev15_lt c⟩ : Dev nD) = peer c 2 := by revert c; decide +kernel

/-! ## The buffers and their windows -/

abbrev xM : Memref sig .tc .hbm S1024x4096 .f32 := Memref.whole main_arg0
abbrev wM : Memref sig .tc .hbm S4096x2048 .f32 := Memref.whole main_arg1
abbrev oM : Memref sig .tc .vmem S4096x512 .f32 := Memref.whole cc0_stg0_0
abbrev xsM : Memref sig .tc .vmem S2x256x4096 .f32 := Memref.whole cc0_scratch0
abbrev xbM : Memref sig .tc .vmem S1024x4096 .bf16 := Memref.whole cc0_scratch1
abbrev wsM : Memref sig .tc .vmem S2x4096x512 .f32 := Memref.whole cc0_scratch2
abbrev ybM : Memref sig .tc .vmem S3x1024x512 .bf16 := Memref.whole cc0_scratch3
abbrev rbM : Memref sig .tc .vmem S3x1024x512 .bf16 := Memref.whole cc0_scratch4

theorem inb_blk (a : Fin 3) (q : Fin 4) : ∀ i : Fin 3, (![a.val, 256 * q.val, 0] : Fin 3 → ℕ) i + S1x256x512.size i ≤ S3x1024x512.size i := by
  revert a q; decide
theorem inb_slab (a : Fin 3) : ∀ i : Fin 3, (![a.val, 0, 0] : Fin 3 → ℕ) i + S1x1024x512.size i ≤ S3x1024x512.size i := by revert a; decide
theorem inb_xs (b : Fin 2) : ∀ i : Fin 3, (![b.val, 0, 0] : Fin 3 → ℕ) i + S1x256x4096.size i ≤ S2x256x4096.size i := by revert b; decide
theorem inb_ws (b : Fin 2) : ∀ i : Fin 3, (![b.val, 0, 0] : Fin 3 → ℕ) i + S1x4096x512.size i ≤ S2x4096x512.size i := by revert b; decide
theorem inb_x (q : Fin 4) : ∀ i : Fin 2, (![256 * q.val, 0] : Fin 2 → ℕ) i + S256x4096.size i ≤ S1024x4096.size i := by revert q; decide
theorem inb_w (t : Dev nD) : ∀ i : Fin 2, (![0, 512 * t.val] : Fin 2 → ℕ) i + S4096x512.size i ≤ S4096x2048.size i := by revert t; decide

/-- The rectangle of quarter `q` of slab `a` of a staging buffer of three slabs; -/
abbrev blkR (a : Fin 3) (q : Fin 4) : Rect S3x1024x512 := Rect.unit (s := S3x1024x512) ![a.val, 256 * q.val, 0] S1x256x512.size (inb_blk a q)
/-- of the whole slab `a`; -/
abbrev slabR (a : Fin 3) : Rect S3x1024x512 := Rect.unit (s := S3x1024x512) ![a.val, 0, 0] S1x1024x512.size (inb_slab a)
/-- of slot `b` of the staged rows of `x`; -/
abbrev xsR (b : Fin 2) : Rect S2x256x4096 := Rect.unit (s := S2x256x4096) ![b.val, 0, 0] S1x256x4096.size (inb_xs b)
/-- of slot `b` of the staged columns of `w`; -/
abbrev wsR (b : Fin 2) : Rect S2x4096x512 := Rect.unit (s := S2x4096x512) ![b.val, 0, 0] S1x4096x512.size (inb_ws b)
/-- of quarter `q` of the rows of `x`; -/
abbrev xR (q : Fin 4) : Rect S1024x4096 := Rect.unit (s := S1024x4096) ![256 * q.val, 0] S256x4096.size (inb_x q)
/-- of the columns of `w` that belong to device `t`. -/
abbrev wR (t : Dev nD) : Rect S4096x2048 := Rect.unit (s := S4096x2048) ![0, 512 * t.val] S4096x512.size (inb_w t)

/-- Quarter `q` of slab `a` of the buffer of outgoing blocks; -/
abbrev ybW (a : Fin 3) (q : Fin 4) : Memref sig .tc .vmem S256x512 .bf16 :=
  (ybM.slice (blkR a q) (fun _ => rfl)).squeeze S256x512 squeezes_S1x256x512_S256x512
/-- of the landing buffer; -/
abbrev rbW (a : Fin 3) (q : Fin 4) : Memref sig .tc .vmem S256x512 .bf16 :=
  (rbM.slice (blkR a q) (fun _ => rfl)).squeeze S256x512 squeezes_S1x256x512_S256x512
/-- slot `b` of the staged rows of `x`; -/
abbrev xsW (b : Fin 2) : Memref sig .tc .vmem S256x4096 .f32 :=
  (xsM.slice (xsR b) (fun _ => rfl)).squeeze S256x4096 squeezes_S1x256x4096_S256x4096
/-- slot `b` of the staged columns of `w`; -/
abbrev wsW (b : Fin 2) : Memref sig .tc .vmem S4096x512 .f32 :=
  (wsM.slice (wsR b) (fun _ => rfl)).squeeze S4096x512 squeezes_S1x4096x512_S4096x512
/-- quarter `q` of the rows of `x`; -/
abbrev xW (q : Fin 4) : Memref sig .tc .hbm S256x4096 .f32 := xM.slice (xR q) (fun _ => rfl)
/-- the columns of `w` that belong to device `t`. -/
abbrev wW (t : Dev nD) : Memref sig .tc .hbm S4096x512 .f32 := wM.slice (wR t) (fun _ => rfl)

/-! ## The cells -/

theorem inb_sem (a : Fin 3) (q : Fin 4) : ∀ i : Fin 2, (![a.val, q.val] : Fin 2 → ℕ) i + S1x1.size i ≤ S3x4.size i := by revert a q; decide
theorem inb_sem2 (b : Fin 2) : ∀ i : Fin 1, (![b.val] : Fin 1 → ℕ) i + S1.size i ≤ S2.size i := by revert b; decide

/-- The barrier semaphore; -/
abbrev barS : Sem sig := (SemArray.scalar (sig.barrier 0 rfl) : Sems sig S_).sem
/-- the semaphore on which the copy of block `(a, q)` departs, -/
abbrev sndS (a : Fin 3) (q : Fin 4) : DmaSem sig := ((cc0_scratch7.slice (Rect.unit (s := S3x4) ![a.val, q.val] S1x1.size (inb_sem a q))).squeeze S_ squeezes_S1x1_S_).sem
/-- and the one on which a copy into the landing block `(a, q)` arrives; -/
abbrev rcvS (a : Fin 3) (q : Fin 4) : DmaSem sig := ((cc0_scratch8.slice (Rect.unit (s := S3x4) ![a.val, q.val] S1x1.size (inb_sem a q))).squeeze S_ squeezes_S1x1_S_).sem
/-- the two semaphores of the copies of `x`, -/
abbrev xS (b : Fin 2) : DmaSem sig := ((cc0_scratch5.slice (Rect.unit (s := S2) ![b.val] S1.size (inb_sem2 b))).squeeze S_ squeezes_S1_S_).sem
/-- and of `w`. -/
abbrev wS (b : Fin 2) : DmaSem sig := ((cc0_scratch6.slice (Rect.unit (s := S2) ![b.val] S1.size (inb_sem2 b))).squeeze S_ squeezes_S1_S_).sem

/-- The cells of one device that take part in the protocol: its barrier (`none`), its departures (`false`) and its arrivals (`true`). -/
abbrev CK : Type := Option (Bool × Fin 3 × Fin 4)
abbrev kBar : CK := none
abbrev kSnd (a : Fin 3) (q : Fin 4) : CK := some (false, a, q)
abbrev kRcv (a : Fin 3) (q : Fin 4) : CK := some (true, a, q)

/-- The semaphore of each. -/
def csem : CK → SemLoc sig
  | none => .reg barS
  | some (false, a, q) => .dma (sndS a q)
  | some (true, a, q) => .dma (rcvS a q)

theorem csem_injective : Function.Injective csem := by unfold Function.Injective; decide +kernel

abbrev kcell (ck : Dev nD × CK) : GSem nD τ sig := ((ck.1 : Thread nD τ), csem ck.2)
abbrev barCell (c : Dev nD) : GSem nD τ sig := kcell (c, kBar)
abbrev sndCell (c : Dev nD) (a : Fin 3) (q : Fin 4) : GSem nD τ sig := kcell (c, kSnd a q)
abbrev rcvCell (c : Dev nD) (a : Fin 3) (q : Fin 4) : GSem nD τ sig := kcell (c, kRcv a q)

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]

open Classical in
/-- Which cell of the protocol a semaphore is. -/
def kind (s : SemLoc sig) : Option CK := if h : ∃ k, csem k = s then some h.choose else none

theorem kind_csem (k : CK) : kind (csem k) = some k := by
  have h : ∃ k', csem k' = csem k := ⟨k, rfl⟩
  unfold kind; rw [dif_pos h]; exact congrArg some (csem_injective h.choose_spec)
theorem kind_of_ne {s : SemLoc sig} (h : ∀ k, csem k ≠ s) : kind s = none := by
  unfold kind; exact dif_neg fun ⟨k, hk⟩ => h k hk

/-- The credit of one block. -/
abbrev N : ℕ := (ybW 0 0).view.dmaCredit
theorem N_pos : 0 < N := View.dmaCredit_pos _ (by decide)

/-! ## What is computed -/

variable (m : (ℓ : Loc nD τ sig) → Buf (Elt F) ℓ)

/-- Quarter `q` of the rows of `x` on device `c`, -/
def xrows (c : Dev nD) (q : Fin 4) : S256x4096.Idx → F .f32 := (xW q).view.read (Elt F) (m ((c : Thread nD τ).loc main_arg0))
/-- and the columns of `w` on device `c` that belong to device `t`. -/
def wcols (c t : Dev nD) : S4096x512.Idx → F .f32 := (wW t).view.read (Elt F) (m ((c : Thread nD τ).loc main_arg1))
/-- Both narrowed for the product. -/
def xbv (c : Dev nD) (q : Fin 4) : FVec F S256x4096 .bf16 := truncf .bf16 (xrows m c q) bitsLt_bf16_f32
def wbv (c t : Dev nD) : FVec F S4096x512 .bf16 := truncf .bf16 (wcols m c t) bitsLt_bf16_f32
/-- The product of the two, -/
def prod (x : FVec F S256x4096 .bf16) (w : FVec F S4096x512 .bf16) : FVec F S256x512 .f32 :=
  matmul dot_S256x4096_S4096x512_S256x512_1_0_0_1_n_n none x w (constant S256x512 .f32 0x00000000#32)
/-- and each element of it times its logistic. -/
def act (y : FVec F S256x512 .f32) : FVec F S256x512 .f32 := mulf y (logistic y)
/-- The block device `c` computes for device `t` from quarter `q` of its rows, -/
def yv (c t : Dev nD) (q : Fin 4) : FVec F S256x512 .f32 := act (prod (xbv m c q) (wbv m c t))
/-- as it is sent. -/
def ybv (c t : Dev nD) (q : Fin 4) : FVec F S256x512 .bf16 := truncf .bf16 (yv m c t q) bitsLt_bf16_f32

/-! ## The schedule -/

/-- Holding a window whole, its elements reading `V`. -/
def ownsW {sp : Space} {s : Shape} {e : EltTy} (c : Dev nD) (M : Memref sig .tc sp s e) (V : s.Idx → Elt F e) : sProp 𝕄 :=
  iprop(∃ f : Buf (Elt F) (M.view.loc (c : Thread nD τ)), ⌜M.view.read (Elt F) f = V⌝ ∗ (M.view.loc (c : Thread nD τ) ↦[M.view.set]{fullShare} f))
/-- Holding a window whole, at any contents. -/
def anyW {sp : Space} {s : Shape} {e : EltTy} (c : Dev nD) (M : Memref sig .tc sp s e) : sProp 𝕄 :=
  iprop(∃ f : Buf (Elt F) (M.view.loc (c : Thread nD τ)), (M.view.loc (c : Thread nD τ) ↦[M.view.set]{fullShare} f))

instance ownsW_storable {sp : Space} {s : Shape} {e : EltTy} (c : Dev nD) (M : Memref sig .tc sp s e) (V : s.Idx → Elt F e) :
    BI.Storable (upEmb : UEmb _ 𝕄) (ownsW c M V) := by unfold ownsW; infer_instance
instance anyW_storable {sp : Space} {s : Shape} {e : EltTy} (c : Dev nD) (M : Memref sig .tc sp s e) :
    BI.Storable (upEmb : UEmb _ 𝕄) (anyW (F := F) c M) := by unfold anyW; infer_instance

/-- The four quarters of the landing slab `a` of device `c`. -/
def slabPts (c : Dev nD) (a : Fin 3) : sProp 𝕄 :=
  iprop(anyW c (rbW a 0) ∗ anyW c (rbW a 1) ∗ anyW c (rbW a 2) ∗ anyW c (rbW a 3))

/-- What the signal of device `peer c (rev j)` hands `c`: that device's landing slab `j`. -/
def barPay (c : Dev nD) (j : Fin 3) : sProp 𝕄 := slabPts (peer c (rev j)) j
/-- What a departure hands back: the outgoing block; -/
def sndPay (c : Dev nD) (a : Fin 3) (q : Fin 4) : sProp 𝕄 := anyW c (ybW a q)
/-- and an arrival: the landing block holding what the device `a + 1` places on computed for `c`. -/
def rcvPay (c : Dev nD) (a : Fin 3) (q : Fin 4) : sProp 𝕄 := ownsW c (rbW a q) (ybv m (peer c a) c q)

instance slabPts_storable (c : Dev nD) (a) : BI.Storable (upEmb : UEmb _ 𝕄) (slabPts (F := F) c a) := by unfold slabPts; infer_instance
instance barPay_storable (c : Dev nD) (a) : BI.Storable (upEmb : UEmb _ 𝕄) (barPay (F := F) c a) := by unfold barPay; infer_instance
instance sndPay_storable (c : Dev nD) (a q) : BI.Storable (upEmb : UEmb _ 𝕄) (sndPay (F := F) c a q) := by unfold sndPay; infer_instance
instance rcvPay_storable (c : Dev nD) (a q) : BI.Storable (upEmb : UEmb _ 𝕄) (rcvPay (F := F) m c a q) := by unfold rcvPay; infer_instance

/-- The duties of a cell's round 0; -/
def dutiesOf : Option CK → Finset (Fin 3)
  | some none => Finset.univ
  | some (some _) => {0}
  | none => ∅
/-- the amount of each; -/
def amountOf : Option CK → ℕ
  | some (some _) => N
  | _ => 1
/-- and what it hands over. -/
def payOf (c : Dev nD) (d : Fin 3) : Option CK → sProp 𝕄
  | some none => barPay c d
  | some (some (false, a, q)) => sndPay c a q
  | some (some (true, a, q)) => rcvPay m c a q
  | none => iprop(emp)

/-- One round, round 0, on every cell of the protocol. -/
def Rd : Rounds.Schedule (GSem nD τ sig) (Fin 3) 𝕄 where
  duties g r := if r = 0 ∧ g.1.2 = .tc then dutiesOf (kind g.2) else ∅
  unitless _ := False
  amount g _ _ := amountOf (kind g.2)
  payload g _ d := payOf m g.1.1 d (kind g.2)
  amount_pos g _ _ _ := by
    generalize kind g.2 = k
    rcases k with _ | _ | k
    · exact Nat.one_pos
    · exact Nat.one_pos
    · exact N_pos

instance Rd_payload_storable (g : GSem nD τ sig) (r : ℕ) (d : Fin 3) : BI.Storable (upEmb : UEmb _ 𝕄) ((Rd (F := F) m).payload g r d) := by
  show BI.Storable upEmb (payOf m g.1.1 d (kind g.2))
  generalize kind g.2 = k
  rcases k with _ | _ | ⟨_ | _, a, q⟩ <;> unfold payOf <;> infer_instance

section Sched
variable (c : Dev nD) (a : Fin 3) (q : Fin 4)

theorem duties_bar : (Rd (F := F) m).duties (barCell c) 0 = Finset.univ := by dsimp only [Rd]; rw [if_pos ⟨rfl, rfl⟩, kind_csem]; rfl
theorem duties_snd : (Rd (F := F) m).duties (sndCell c a q) 0 = {0} := by dsimp only [Rd]; rw [if_pos ⟨rfl, rfl⟩, kind_csem]; rfl
theorem duties_rcv : (Rd (F := F) m).duties (rcvCell c a q) 0 = {0} := by dsimp only [Rd]; rw [if_pos ⟨rfl, rfl⟩, kind_csem]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by dsimp only [Rd]; rw [kind_csem]; rfl
theorem amount_snd (d : Fin 3) : (Rd (F := F) m).amount (sndCell c a q) 0 d = N := by dsimp only [Rd]; rw [kind_csem]; rfl
theorem amount_rcv (d : Fin 3) : (Rd (F := F) m).amount (rcvCell c a q) 0 d = N := by dsimp only [Rd]; rw [kind_csem]; rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sndCell c a q) 0 = N := by
  unfold Schedule.expect Schedule.amountOf; rw [duties_snd, Finset.sum_singleton, amount_snd]
theorem expect_rcv : (Rd (F := F) m).expect (rcvCell c a q) 0 = N := by
  unfold Schedule.expect Schedule.amountOf; rw [duties_rcv, Finset.sum_singleton, amount_rcv]

theorem payload_bar (d : Fin 3) : (Rd (F := F) m).payload (barCell c) 0 d = barPay c d := by dsimp only [Rd]; rw [kind_csem]; rfl
theorem payload_snd (d : Fin 3) : (Rd (F := F) m).payload (sndCell c a q) 0 d = sndPay c a q := by dsimp only [Rd]; rw [kind_csem]; rfl
theorem payload_rcv (d : Fin 3) : (Rd (F := F) m).payload (rcvCell c a q) 0 d = rcvPay m c a q := by dsimp only [Rd]; rw [kind_csem]; rfl

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((Rd (F := F) m).duties (sndCell c a q) 0 \ ∅) (fun d => (Rd (F := F) m).payload (sndCell c a q) 0 d) = sndPay c a q := by
  rw [Finset.sdiff_empty, duties_snd, bigSep_singleton, payload_snd]
theorem rest_rcv : bigSep ((Rd (F := F) m).duties (rcvCell c a q) 0 \ ∅) (fun d => (Rd (F := F) m).payload (rcvCell c a q) 0 d) = rcvPay m c a q := by
  rw [Finset.sdiff_empty, duties_rcv, bigSep_singleton, payload_rcv]

end Sched

/-! ## What each device owes, and the levels -/

/-- The credit of the blocks still to be sent, in the order they are sent. -/
def Ow (c : Dev nD) : List (Fin 3 × Fin 4) → CellTallies nD τ sig Unit
  | [] => 0
  | p :: l => Ow c l + tallyAt (rcvCell (peer c p.1) (rev p.1) p.2) () N

/-- The order of the blocks sent to the device `a + 1` places on, before `l`. -/
abbrev four (a : Fin 3) (l : List (Fin 3 × Fin 4)) : List (Fin 3 × Fin 4) := (a, 0) :: (a, 1) :: (a, 2) :: (a, 3) :: l
/-- All twelve. -/
abbrev order : List (Fin 3 × Fin 4) := four 1 (four 0 (four 2 []))

/-- With the barrier units still owed: the last one, the last two, all three. -/
def Ob1 (c : Dev nD) : CellTallies nD τ sig Unit := Ow c order + tallyAt (barCell (peer c 2)) () 1
def Ob2 (c : Dev nD) : CellTallies nD τ sig Unit := Ob1 c + tallyAt (barCell (peer c 1)) () 1
def O₀ (c : Dev nD) : CellTallies nD τ sig Unit := Ob2 c + tallyAt (barCell (peer c 0)) () 1

def L (g : GSem nD τ sig) : Finset Unit := if g.1.2 = .tc then {()} else ∅
/-- Barrier cells at 1, arrivals at 2, everything else at 0. -/
def lvOf : Option CK → ℕ
  | some none => 1
  | some (some (true, _, _)) => 2
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

/-- Everything `O` owes is at level `n` or above, on a TensorCore. -/
def Above (n : ℕ) (O : CellTallies nD τ sig Unit) : Prop := ∀ g u, 0 < O g u → g.1.2 = .tc ∧ n ≤ lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · rw [h0, Nat.zero_add] at hp; exact h' g u hp
  · exact h g u h0
theorem above_tally {n k : ℕ} (c : Dev nD) (i : CK) (hi : n ≤ lvOf (some i)) : Above n (tallyAt (kcell (c, i)) () k) := fun g u hp => by
  rw [tallyAt_apply] at hp
  by_cases h : g = kcell (c, i) ∧ u = ()
  · rw [h.1]; exact ⟨rfl, by unfold lv; rw [kind_csem]; exact hi⟩
  · rw [if_neg h] at hp; exact absurd hp (Nat.lt_irrefl 0)

theorem above_Ow (c : Dev nD) (l : List (Fin 3 × Fin 4)) : Above 2 (Ow c l) := by
  induction l with
  | nil => exact above_zero 2
  | cons p l ih => exact above_add ih (above_tally _ _ (le_refl 2))
theorem Above.mono {n n' : ℕ} {O : CellTallies nD τ sig Unit} (h : Above n O) (hn : n' ≤ n) : Above n' O := fun g u hp => ⟨(h g u hp).1, hn.trans (h g u hp).2⟩
theorem above_Ob1 (c : Dev nD) : Above 1 (Ob1 c) := above_add ((above_Ow c _).mono (by decide)) (above_tally _ _ (by decide))
theorem above_Ob2 (c : Dev nD) : Above 1 (Ob2 c) := above_add (above_Ob1 c) (above_tally _ _ (by decide))
theorem above_O₀ (c : Dev nD) : Above 1 (O₀ c) := above_add (above_Ob2 c) (above_tally _ _ (by decide))

/-- A wait below everything owed is allowed. -/
theorem mayWait_of_above (c : Dev nD) (sm : SemLoc sig) {n : ℕ} (hn : lvOf (kind sm) = n) {O : CellTallies nD τ sig Unit} (hO : Above (n + 1) O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; unfold lv; exact le_of_eq hn)
    (fun g u hg => Nat.lt_of_succ_le (hO g u hg).2)

theorem kind_x (b : Fin 2) : kind (.dma (xS b)) = none := kind_of_ne (by revert b; decide +kernel)
theorem kind_w (b : Fin 2) : kind (.dma (wS b)) = none := kind_of_ne (by revert b; decide +kernel)

end Cert.KernelIdeal.Hand

end
-- ==== Proof.KernelIdeal.Windows.lean ====
/-
The element sets of the windows, and what is read back after a write: staging windows against the rectangles of loads and
stores, and slabs against their quarters.
-/
module

public import proofs.«01_k».proof.Proof.KernelIdeal.Protocol

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Element sets -/

theorem ybW_set (a : Fin 3) (q : Fin 4) : (ybW a q).view.set = (blkR a q).set := by rw [View.set_reshape]; exact View.set_slice_whole _ _
theorem rbW_set (a : Fin 3) (q : Fin 4) : (rbW a q).view.set = (blkR a q).set := by rw [View.set_reshape]; exact View.set_slice_whole _ _
theorem xsW_set (b : Fin 2) : (xsW b).view.set = (xsR b).set := by rw [View.set_reshape]; exact View.set_slice_whole _ _
theorem wsW_set (b : Fin 2) : (wsW b).view.set = (wsR b).set := by rw [View.set_reshape]; exact View.set_slice_whole _ _

theorem yb_access_set (a : Fin 3) (q : Fin 4) : (ybM.access (blkR a q)).set = (blkR a q).set := View.set_slice_whole _ _
theorem xs_access_set (b : Fin 2) : (xsM.access (xsR b)).set = (xsR b).set := View.set_slice_whole _ _
theorem ws_access_set (b : Fin 2) : (wsM.access (wsR b)).set = (wsR b).set := View.set_slice_whole _ _
theorem rb_access_set (a : Fin 3) : (rbM.access (slabR a)).set = (slabR a).set := View.set_slice_whole _ _

/-- Distinct quarters share no element; -/
theorem blk_disjoint (p p' : Fin 3 × Fin 4) (h : p ≠ p') : Disjoint (blkR p.1 p.2).set (blkR p'.1 p'.2).set := by
  obtain ⟨a, q⟩ := p; obtain ⟨a', q'⟩ := p'
  by_cases ha : a = a'
  · subst ha
    have hq : q ≠ q' := fun e => h (by rw [e])
    refine Rect.unit_disjoint (1 : Fin 3) ?_
    have h1 := q.isLt; have h2 := q'.isLt
    have : q.val ≠ q'.val := fun e => hq (Fin.ext e)
    show 256 * q.val + 256 ≤ 256 * q'.val ∨ 256 * q'.val + 256 ≤ 256 * q.val
    omega
  · refine Rect.unit_disjoint (0 : Fin 3) ?_
    have : a.val ≠ a'.val := fun e => ha (Fin.ext e)
    show a.val + 1 ≤ a'.val ∨ a'.val + 1 ≤ a.val
    omega
/-- the quarters of a slab are the slab; -/
theorem slab_union (a : Fin 3) : (Finset.univ.biUnion fun q : Fin 4 => (blkR a q).set) = (slabR a).set := by
  ext i
  simp only [Finset.mem_biUnion, Finset.mem_univ, true_and, Rect.mem_set_unit]
  have h1 : (i 1).val < 1024 := (i 1).isLt
  constructor
  · rintro ⟨q, hq⟩ x
    have hq' := q.isLt
    have := hq x
    revert this
    fin_cases x
    · exact id
    · show 256 * q.val ≤ (i 1).val ∧ (i 1).val < 256 * q.val + 256 → 0 ≤ (i 1).val ∧ (i 1).val < 0 + 1024
      omega
    · exact id
  · intro h
    refine ⟨⟨(i 1).val / 256, by omega⟩, fun x => ?_⟩
    have := h x
    revert this
    fin_cases x
    · exact id
    · show 0 ≤ (i 1).val ∧ (i 1).val < 0 + 1024 → 256 * ((i 1).val / 256) ≤ (i 1).val ∧ (i 1).val < 256 * ((i 1).val / 256) + 256
      omega
    · exact id
/-- and all quarters are the buffer. -/
theorem blk_union : (Finset.univ.biUnion fun p : Fin 3 × Fin 4 => (blkR p.1 p.2).set) = Finset.univ := by
  ext i
  simp only [Finset.mem_biUnion, Finset.mem_univ, true_and, iff_true, Rect.mem_set_unit]
  have h0 : (i 0).val < 3 := (i 0).isLt
  have h1 : (i 1).val < 1024 := (i 1).isLt
  have h2 : (i 2).val < 512 := (i 2).isLt
  refine ⟨(⟨(i 0).val, h0⟩, ⟨(i 1).val / 256, by omega⟩), fun x => ?_⟩
  fin_cases x
  · show (i 0).val ≤ (i 0).val ∧ (i 0).val < (i 0).val + 1
    omega
  · show 256 * ((i 1).val / 256) ≤ (i 1).val ∧ (i 1).val < 256 * ((i 1).val / 256) + 256
    omega
  · show 0 ≤ (i 2).val ∧ (i 2).val < 0 + 512
    omega

theorem xs_disjoint (b b' : Fin 2) (h : b ≠ b') : Disjoint (xsR b).set (xsR b').set := by
  refine Rect.unit_disjoint (0 : Fin 3) ?_
  have : b.val ≠ b'.val := fun e => h (Fin.ext e)
  show b.val + 1 ≤ b'.val ∨ b'.val + 1 ≤ b.val
  omega
theorem xs_union : (Finset.univ.biUnion fun b : Fin 2 => (xsR b).set) = Finset.univ := by
  ext i
  simp only [Finset.mem_biUnion, Finset.mem_univ, true_and, iff_true, Rect.mem_set_unit]
  have h0 : (i 0).val < 2 := (i 0).isLt
  have h1 : (i 1).val < 256 := (i 1).isLt
  have h2 : (i 2).val < 4096 := (i 2).isLt
  refine ⟨⟨(i 0).val, h0⟩, fun x => ?_⟩
  fin_cases x
  · show (i 0).val ≤ (i 0).val ∧ (i 0).val < (i 0).val + 1
    omega
  · show 0 ≤ (i 1).val ∧ (i 1).val < 0 + 256
    omega
  · show 0 ≤ (i 2).val ∧ (i 2).val < 0 + 4096
    omega
theorem ws_disjoint (b b' : Fin 2) (h : b ≠ b') : Disjoint (wsR b).set (wsR b').set := by
  refine Rect.unit_disjoint (0 : Fin 3) ?_
  have : b.val ≠ b'.val := fun e => h (Fin.ext e)
  show b.val + 1 ≤ b'.val ∨ b'.val + 1 ≤ b.val
  omega
theorem ws_union : (Finset.univ.biUnion fun b : Fin 2 => (wsR b).set) = Finset.univ := by
  ext i
  simp only [Finset.mem_biUnion, Finset.mem_univ, true_and, iff_true, Rect.mem_set_unit]
  have h0 : (i 0).val < 2 := (i 0).isLt
  have h1 : (i 1).val < 4096 := (i 1).isLt
  have h2 : (i 2).val < 512 := (i 2).isLt
  refine ⟨⟨(i 0).val, h0⟩, fun x => ?_⟩
  fin_cases x
  · show (i 0).val ≤ (i 0).val ∧ (i 0).val < (i 0).val + 1
    omega
  · show 0 ≤ (i 1).val ∧ (i 1).val < 0 + 4096
    omega
  · show 0 ≤ (i 2).val ∧ (i 2).val < 0 + 512
    omega
theorem x_disjoint (q q' : Fin 4) (h : q ≠ q') : Disjoint (xbM.access (xR q)).set (xbM.access (xR q')).set := by
  rw [show (xbM.access (xR q)).set = (xR q).set from View.set_slice_whole _ _, show (xbM.access (xR q')).set = (xR q').set from View.set_slice_whole _ _]
  refine Rect.unit_disjoint (0 : Fin 2) ?_
  have : q.val ≠ q'.val := fun e => h (Fin.ext e)
  show 256 * q.val + 256 ≤ 256 * q'.val ∨ 256 * q'.val + 256 ≤ 256 * q.val
  omega

/-! ## Reading back -/

/-- A load of a staged slot, with its unit axis dropped, is the window's reading; -/
theorem xs_load (b : Fin 2) (f : xsM.view.ty.Contents (Elt F)) :
    shapeCast S256x4096 (xsM.view.readAt (Elt F) (xsR b).toLoadRect f) shapeCasts_S1x256x4096_S256x4096 = (xsW b).view.read (Elt F) f := rfl
theorem ws_load (b : Fin 2) (f : wsM.view.ty.Contents (Elt F)) :
    shapeCast S4096x512 (wsM.view.readAt (Elt F) (wsR b).toLoadRect f) shapeCasts_S1x4096x512_S4096x512 = (wsW b).view.read (Elt F) f := rfl
/-- a block stored through its rectangle is what the window then reads; -/
theorem yb_store (a : Fin 3) (q : Fin 4) (f : ybM.view.ty.Contents (Elt F)) (w : S1x256x512.Idx → Elt F .bf16) :
    (ybW a q).view.read (Elt F) ((ybM.access (blkR a q)).write (Elt F) f w Finset.univ) = shapeCast S256x512 w shapeCasts_S1x256x512_S256x512 := by
  show shapeCast S256x512 ((ybM.access (blkR a q)).read (Elt F) ((ybM.access (blkR a q)).write (Elt F) f w Finset.univ)) _ = _
  rw [View.read_write_univ]
/-- so it is of a quarter of the narrowed rows, and of another quarter the store changes nothing. -/
theorem xb_store_same (q : Fin 4) (f : xbM.view.ty.Contents (Elt F)) (w : S256x4096.Idx → Elt F .bf16) :
    xbM.view.readAt (Elt F) (xR q).toLoadRect ((xbM.access (xR q)).write (Elt F) f w Finset.univ) = w := by
  rw [View.readAt_rect]; exact View.read_write_univ _ _
theorem xb_store_other (q q' : Fin 4) (h : q ≠ q') (f : xbM.view.ty.Contents (Elt F)) (w : S256x4096.Idx → Elt F .bf16) :
    xbM.view.readAt (Elt F) (xR q).toLoadRect ((xbM.access (xR q')).write (Elt F) f w Finset.univ) = xbM.view.readAt (Elt F) (xR q).toLoadRect f := by
  rw [View.readAt_rect, View.readAt_rect]
  exact View.read_slice_write_slice_of_disjoint _ _ _ _ _ (x_disjoint q q' h)

end Cert.KernelIdeal.Hand

end
-- ==== Proof.KernelIdeal.Local.lean ====
/-
The effects that stay on one device: the copies from HBM into the staging slots, and the loads and stores of the staging,
narrowed and outgoing buffers.  Each lemma turns one piece of the device's state into the next.
-/
module

public import proofs.«01_k».proof.Proof.KernelIdeal.Windows

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What device `c` owes, whatever it has waited for. -/
def Owes (c : Dev nD) (O : CellTallies nD τ sig Unit) : sProp 𝕄 := iprop(∃ W : Waits sig Unit, owes (c : Thread nD τ) O W)

variable (m : (ℓ : Loc nD τ sig) → Buf (Elt F) ℓ)

/-! ## The rows of `x` -/

/-- The share of an argument that slot `b` reads it with. -/
def half (b : Fin 2) : PosShare TreeShare := if b = 0 then fullShare.left else fullShare.right

/-- The share slot `b` has of `x`, and of `w`. -/
def xHbm (c : Dev nD) (b : Fin 2) : sProp 𝕄 := (((c : Thread nD τ).loc main_arg0) ↦{half b} m ((c : Thread nD τ).loc main_arg0))
def wHbm (c : Dev nD) (b : Fin 2) : sProp 𝕄 := (((c : Thread nD τ).loc main_arg1) ↦{half b} m ((c : Thread nD τ).loc main_arg1))

/-- Slot `b` free; -/
def xIdle (c : Dev nD) (b : Fin 2) : sProp 𝕄 := iprop(anyW c (xsW b) ∗ xHbm m c b ∗ semVal ((c : Thread nD τ), .dma (xS b)) 0)
/-- being filled with quarter `q`; -/
def xFly (c : Dev nD) (b : Fin 2) (q : Fin 4) : sProp 𝕄 :=
  iprop(Transfers.Flight EC (c : Thread nD τ) (.dma (xS b)) () ((xsW b).view.dmaCredit)
      iprop(ownsW c (xsW b) (xrows m c q) ∗ (((c : Thread nD τ).loc main_arg0) ↦[(xW q).view.set]{half b} m ((c : Thread nD τ).loc main_arg0)))
    ∗ (((c : Thread nD τ).loc main_arg0) ↦[Finset.univ \ (xW q).view.set]{half b} m ((c : Thread nD τ).loc main_arg0)))
/-- filled with it. -/
def xFull (c : Dev nD) (b : Fin 2) (q : Fin 4) : sProp 𝕄 :=
  iprop(ownsW c (xsW b) (xrows m c q) ∗ xHbm m c b ∗ semVal ((c : Thread nD τ), .dma (xS b)) 0)

theorem ownsW_any {sp : Space} {s : Shape} {e : EltTy} (c : Dev nD) (M : Memref sig .tc sp s e) (V : s.Idx → Elt F e) : ownsW c M V ⊢ anyW c M := by
  unfold ownsW anyW
  iintro ⟨%f, -, H⟩
  iexists f; iexact H

theorem xFull_idle (c : Dev nD) (b : Fin 2) (q : Fin 4) : xFull m c b q ⊢ xIdle m c b := by
  unfold xFull xIdle
  iintro ⟨H1, H2, H3⟩
  isplitl [H1]; · iapply (ownsW_any c _ _); iexact H1
  isplitl [H2] <;> iassumption

/-- The copy starts; -/
theorem x_start (c : Dev nD) (b : Fin 2) (q : Fin 4) {hsrc : (xW q).view.WordExact} {hdst : (xsW b).view.WordExact}
    {hsem : DmaTarget.Typed .hbm (.dma (xS b)) (.here (xsW b) : DmaTarget nD τ sig .tc .vmem S256x4096 .f32)}
    {α : Type} {Q : α → sProp 𝕄} {k : PUnit → Prog (TpuEff nD τ sig (Elt F) Λ₀ .tc) α} :
    xIdle m c b ⊢ iprop((xFly m c b q -∗ WP c (k ⟨⟩) Q) -∗ WP c (.op (.enqueueDma (xW q) (.here (xsW b)) (.dma (xS b)) hsrc hdst hsem) k) Q) := by
  unfold xIdle xFly anyW xHbm
  iintro ⟨⟨%f, Hd⟩, Hs, Hv⟩ Hk
  ihave Hs' := (pointsTo_split_subset (Finset.subset_univ (xW q).view.set)).1 $$ Hs
  icases Hs' with ⟨Hs, Hrest⟩
  iapply (Transfers.wp_dmaLocal EC Variants.none (c : Thread nD τ) none () ((xsW b).view.dmaCredit) rfl (View.dmaCredit_pos _ (by decide)) (Finset.Subset.refl _)) $$ [Hd Hs Hv]
  · isplitl [Hs]; · iexact Hs
    isplitl [Hd]; · iexact Hd
    iexact Hv
  iintro H
  iapply Hk
  isplitl [H]
  · iapply (Transfers.Flight_mono EC (c : Thread nD τ) (by
      unfold ownsW
      iintro ⟨H1, H2⟩
      isplitl [H1]
      · iexists ((xsW b).view.write (Elt F) f ((xW q).view.read (Elt F) (m ((c : Thread nD τ).loc main_arg0))) Finset.univ)
        isplitr
        · ipureintro; exact View.read_write_univ _ _
        · iexact H1
      · iexact H2)) $$ H
  · iexact Hrest

/-- it is waited for; -/
theorem x_wait (c : Dev nD) (b : Fin 2) (q : Fin 4) {O : CellTallies nD τ sig Unit} (hO : Above 1 O)
    {sp' : Space} {s' : Shape} {e' : EltTy} {srcw : Memref sig .tc sp' s' e'} {hsrc : srcw.view.WordExact} {hdst : (xsW b).view.WordExact}
    {α : Type} {Q : α → sProp 𝕄} {k : PUnit → Prog (TpuEff nD τ sig (Elt F) Λ₀ .tc) α} :
    iprop(levAts L lv ∗ xFly m c b q ∗ Owes c O)
      ⊢ iprop((iprop(xFull m c b q ∗ Owes c O) -∗ WP c (k ⟨⟩) Q) -∗ WP c (.op (.waitDma2 (xS b) srcw (xsW b) hsrc hdst) k) Q) := by
  unfold xFly xFull Owes xHbm
  iintro ⟨#Hlev, ⟨Hf, Hrest⟩, ⟨%W, HO⟩⟩ Hk
  iapply (Transfers.wp_waitLocalO EC Variants.none (c : Thread nD τ) none () rfl (O := O) (W := W)) $$ [Hf HO]
  · isplitl [Hf]; · iexact Hf
    isplitl [HO]; · iexact HO
    iapply (mayWait_of_above c (.dma (xS b)) (n := 0) (by rw [kind_x]; rfl) hO); iexact Hlev
  iintro ⟨⟨Hd, Hs⟩, Hv, HO⟩
  iapply Hk
  isplitl [Hd Hs Hrest Hv]
  · isplitl [Hd]; · iexact Hd
    isplitl [Hs Hrest]
    · iapply (pointsTo_split_subset (Finset.subset_univ (xW q).view.set)).2
      isplitl [Hs] <;> iassumption
    · iexact Hv
  · iexists _; iexact HO

/-- and the slot is loaded. -/
theorem x_load (c : Dev nD) (b : Fin 2) (q : Fin 4) {hl : xsM.view.LoadsAt (xsR b).toLoadRect}
    {α : Type} {Q : α → sProp 𝕄} {k : (S1x256x4096.Idx → Elt F .f32) → Prog (TpuEff nD τ sig (Elt F) Λ₀ .tc) α} :
    xFull m c b q
      ⊢ iprop((∀ v : S1x256x4096.Idx → Elt F .f32, ⌜shapeCast S256x4096 v shapeCasts_S1x256x4096_S256x4096 = xrows m c q⌝ -∗ xFull m c b q -∗ WP c (k v) Q)
        -∗ WP c (.op (.load xsM (xsR b).toLoadRect hl) k) Q) := by
  unfold xFull ownsW
  iintro ⟨⟨%f, %hf, Hd⟩, Hs, Hv⟩ Hk
  iapply (wp_load_rect Variants.none (c : Thread nD τ) none Set.univ (m := xsM) (r := xsR b) (S := (xsW b).view.set) (f := f)
    (by rw [xs_access_set, xsW_set])) $$ Hd
  iintro Hd
  iapply Hk $$ []
  · ipureintro; exact (xs_load b f).trans hf
  isplitl [Hd]
  · iexists f; isplitr; · (ipureintro; exact hf)
    iexact Hd
  isplitl [Hs] <;> iassumption

/-! ## The columns of `w` -/

/-- Slot `b` free; -/
def wIdle (c : Dev nD) (b : Fin 2) : sProp 𝕄 := iprop(anyW c (wsW b) ∗ wHbm m c b ∗ semVal ((c : Thread nD τ), .dma (wS b)) 0)
/-- being filled with the columns of device `t`; -/
def wFly (c : Dev nD) (b : Fin 2) (t : Dev nD) : sProp 𝕄 :=
  iprop(Transfers.Flight EC (c : Thread nD τ) (.dma (wS b)) () ((wsW b).view.dmaCredit)
      iprop(ownsW c (wsW b) (wcols m c t) ∗ (((c : Thread nD τ).loc main_arg1) ↦[(wW t).view.set]{half b} m ((c : Thread nD τ).loc main_arg1)))
    ∗ (((c : Thread nD τ).loc main_arg1) ↦[Finset.univ \ (wW t).view.set]{half b} m ((c : Thread nD τ).loc main_arg1)))
/-- filled with it. -/
def wFull (c : Dev nD) (b : Fin 2) (t : Dev nD) : sProp 𝕄 :=
  iprop(ownsW c (wsW b) (wcols m c t) ∗ wHbm m c b ∗ semVal ((c : Thread nD τ), .dma (wS b)) 0)

theorem wFull_idle (c : Dev nD) (b : Fin 2) (t : Dev nD) : wFull m c b t ⊢ wIdle m c b := by
  unfold wFull wIdle
  iintro ⟨H1, H2, H3⟩
  isplitl [H1]; · iapply (ownsW_any c _ _); iexact H1
  isplitl [H2] <;> iassumption

/-- The copy starts; -/
theorem w_start (c : Dev nD) (b : Fin 2) (t : Dev nD) {off : Fin 2 → ℕ} (hoff : off = ![0, 512 * t.val])
    {inb : ∀ i : Fin 2, off i + S4096x512.size i ≤ S4096x2048.size i}
    {hsrc : (wM.slice (Rect.unit (s := S4096x2048) off S4096x512.size inb) (fun _ => rfl)).view.WordExact} {hdst : (wsW b).view.WordExact}
    {hsem : DmaTarget.Typed .hbm (.dma (wS b)) (.here (wsW b) : DmaTarget nD τ sig .tc .vmem S4096x512 .f32)}
    {α : Type} {Q : α → sProp 𝕄} {k : PUnit → Prog (TpuEff nD τ sig (Elt F) Λ₀ .tc) α} :
    wIdle m c b ⊢ iprop((wFly m c b t -∗ WP c (k ⟨⟩) Q) -∗ WP c (.op (.enqueueDma (wM.slice (Rect.unit (s := S4096x2048) off S4096x512.size inb) (fun _ => rfl)) (.here (wsW b)) (.dma (wS b)) hsrc hdst hsem) k) Q) := by
  subst hoff
  unfold wIdle wFly anyW wHbm
  iintro ⟨⟨%f, Hd⟩, Hs, Hv⟩ Hk
  ihave Hs' := (pointsTo_split_subset (Finset.subset_univ (wW t).view.set)).1 $$ Hs
  icases Hs' with ⟨Hs, Hrest⟩
  iapply (Transfers.wp_dmaLocal EC Variants.none (c : Thread nD τ) none () ((wsW b).view.dmaCredit) rfl (View.dmaCredit_pos _ (by decide)) (Finset.Subset.refl _)) $$ [Hd Hs Hv]
  · isplitl [Hs]; · iexact Hs
    isplitl [Hd]; · iexact Hd
    iexact Hv
  iintro H
  iapply Hk
  isplitl [H]
  · iapply (Transfers.Flight_mono EC (c : Thread nD τ) (by
      unfold ownsW
      iintro ⟨H1, H2⟩
      isplitl [H1]
      · iexists ((wsW b).view.write (Elt F) f ((wW t).view.read (Elt F) (m ((c : Thread nD τ).loc main_arg1))) Finset.univ)
        isplitr
        · ipureintro; exact View.read_write_univ _ _
        · iexact H1
      · iexact H2)) $$ H
  · iexact Hrest

/-- it is waited for; -/
theorem w_wait (c : Dev nD) (b : Fin 2) (t : Dev nD) {O : CellTallies nD τ sig Unit} (hO : Above 1 O)
    {sp' : Space} {s' : Shape} {e' : EltTy} {srcw : Memref sig .tc sp' s' e'} {hsrc : srcw.view.WordExact} {hdst : (wsW b).view.WordExact}
    {α : Type} {Q : α → sProp 𝕄} {k : PUnit → Prog (TpuEff nD τ sig (Elt F) Λ₀ .tc) α} :
    iprop(levAts L lv ∗ wFly m c b t ∗ Owes c O)
      ⊢ iprop((iprop(wFull m c b t ∗ Owes c O) -∗ WP c (k ⟨⟩) Q) -∗ WP c (.op (.waitDma2 (wS b) srcw (wsW b) hsrc hdst) k) Q) := by
  unfold wFly wFull Owes wHbm
  iintro ⟨#Hlev, ⟨Hf, Hrest⟩, ⟨%W, HO⟩⟩ Hk
  iapply (Transfers.wp_waitLocalO EC Variants.none (c : Thread nD τ) none () rfl (O := O) (W := W)) $$ [Hf HO]
  · isplitl [Hf]; · iexact Hf
    isplitl [HO]; · iexact HO
    iapply (mayWait_of_above c (.dma (wS b)) (n := 0) (by rw [kind_w]; rfl) hO); iexact Hlev
  iintro ⟨⟨Hd, Hs⟩, Hv, HO⟩
  iapply Hk
  isplitl [Hd Hs Hrest Hv]
  · isplitl [Hd]; · iexact Hd
    isplitl [Hs Hrest]
    · iapply (pointsTo_split_subset (Finset.subset_univ (wW t).view.set)).2
      isplitl [Hs] <;> iassumption
    · iexact Hv
  · iexists _; iexact HO

/-- and the slot is loaded. -/
theorem w_load (c : Dev nD) (b : Fin 2) (t : Dev nD) {hl : wsM.view.LoadsAt (wsR b).toLoadRect}
    {α : Type} {Q : α → sProp 𝕄} {k : (S1x4096x512.Idx → Elt F .f32) → Prog (TpuEff nD τ sig (Elt F) Λ₀ .tc) α} :
    wFull m c b t
      ⊢ iprop((∀ v : S1x4096x512.Idx → Elt F .f32, ⌜shapeCast S4096x512 v shapeCasts_S1x4096x512_S4096x512 = wcols m c t⌝ -∗ wFull m c b t -∗ WP c (k v) Q)
        -∗ WP c (.op (.load wsM (wsR b).toLoadRect hl) k) Q) := by
  unfold wFull ownsW
  iintro ⟨⟨%f, %hf, Hd⟩, Hs, Hv⟩ Hk
  iapply (wp_load_rect Variants.none (c : Thread nD τ) none Set.univ (m := wsM) (r := wsR b) (S := (wsW b).view.set) (f := f)
    (by rw [ws_access_set, wsW_set])) $$ Hd
  iintro Hd
  iapply Hk $$ []
  · ipureintro; exact (ws_load b f).trans hf
  isplitl [Hd]
  · iexists f; isplitr; · (ipureintro; exact hf)
    iexact Hd
  isplitl [Hs] <;> iassumption

/-! ## The narrowed rows -/

/-- The buffer of the narrowed rows, its first `n` quarters filled. -/
def XB (c : Dev nD) (n : ℕ) : sProp 𝕄 :=
  iprop(∃ f : Buf (Elt F) (xbM.view.loc (c : Thread nD τ)), ⌜∀ q : Fin 4, q.val < n → xbM.view.readAt (Elt F) (xR q).toLoadRect f = xbv m c q⌝
    ∗ (xbM.view.loc (c : Thread nD τ) ↦{fullShare} f))

/-- A load of a quarter: what is there, if it is filled; -/
theorem xb_load (c : Dev nD) (n : ℕ) (q : Fin 4) {hl : xbM.view.LoadsAt (xR q).toLoadRect}
    {α : Type} {Q : α → sProp 𝕄} {k : (S256x4096.Idx → Elt F .bf16) → Prog (TpuEff nD τ sig (Elt F) Λ₀ .tc) α} :
    XB m c n ⊢ iprop((∀ v : S256x4096.Idx → Elt F .bf16, ⌜q.val < n → v = xbv m c q⌝ -∗ XB m c n -∗ WP c (k v) Q)
      -∗ WP c (.op (.load xbM (xR q).toLoadRect hl) k) Q) := by
  unfold XB
  iintro ⟨%f, %hf, H⟩ Hk
  iapply (wp_load Variants.none (c : Thread nD τ) none Set.univ (m := xbM) (Finset.subset_univ _)) $$ H
  iintro H
  iapply Hk $$ []
  · ipureintro; exact hf q
  · iexists f; isplitr; · (ipureintro; exact hf)
    iexact H

/-- the next quarter stored. -/
theorem xb_store (c : Dev nD) (q : Fin 4) {n : ℕ} (hn : q.val = n) {w : S256x4096.Idx → Elt F .bf16} (hw : w = xbv m c q) {hx : (xbM.access (xR q)).Stores Finset.univ}
    {hm : (Finset.univ : Finset (xR q).shape.Idx) = Finset.univ ∨ ∀ a, (xR q).stride a = 1}
    {α : Type} {Q : α → sProp 𝕄} {k : PUnit → Prog (TpuEff nD τ sig (Elt F) Λ₀ .tc) α} :
    XB m c n ⊢ iprop((XB m c (n + 1) -∗ WP c (k ⟨⟩) Q) -∗ WP c (.op (.store xbM (xR q) w Finset.univ hx hm) k) Q) := by
  unfold XB
  iintro ⟨%f, %hf, H⟩ Hk
  iapply (wp_store Variants.none (c : Thread nD τ) none Set.univ (m := xbM) (r := xR q) (Mk := Finset.univ) (Finset.subset_univ _)) $$ H
  iintro H
  iapply Hk
  iexists ((xbM.access (xR q)).write (Elt F) f w Finset.univ)
  isplitr
  · ipureintro
    intro q' hq'
    by_cases h : q' = q
    · subst h; exact (xb_store_same _ _ _).trans hw
    · rw [xb_store_other q' q h]; exact hf q' (by
        have : q'.val ≠ q.val := fun e => h (Fin.ext e)
        omega)
  · iexact H

/-! ## The outgoing blocks -/

/-- A load of an outgoing block before it is stored; -/
theorem yb_load (c : Dev nD) (a : Fin 3) (q : Fin 4) {hl : ybM.view.LoadsAt (blkR a q).toLoadRect}
    {α : Type} {Q : α → sProp 𝕄} {k : (S1x256x512.Idx → Elt F .bf16) → Prog (TpuEff nD τ sig (Elt F) Λ₀ .tc) α} :
    anyW c (ybW a q) ⊢ iprop((∀ v : S1x256x512.Idx → Elt F .bf16, anyW c (ybW a q) -∗ WP c (k v) Q)
      -∗ WP c (.op (.load ybM (blkR a q).toLoadRect hl) k) Q) := by
  unfold anyW
  iintro ⟨%f, H⟩ Hk
  iapply (wp_load_rect Variants.none (c : Thread nD τ) none Set.univ (m := ybM) (r := blkR a q) (S := (ybW a q).view.set) (f := f)
    (by rw [yb_access_set, ybW_set])) $$ H
  iintro H
  iapply Hk
  iexists f; iexact H

/-- and the store. -/
theorem yb_put (c : Dev nD) (a : Fin 3) (q : Fin 4) (V : S256x512.Idx → Elt F .bf16) {w : S1x256x512.Idx → Elt F .bf16}
    (hw : shapeCast S256x512 w shapeCasts_S1x256x512_S256x512 = V) {hx : (ybM.access (blkR a q)).Stores Finset.univ}
    {hm : (Finset.univ : Finset (blkR a q).shape.Idx) = Finset.univ ∨ ∀ a', (blkR a q).stride a' = 1}
    {α : Type} {Q : α → sProp 𝕄} {k : PUnit → Prog (TpuEff nD τ sig (Elt F) Λ₀ .tc) α} :
    anyW c (ybW a q) ⊢ iprop((ownsW c (ybW a q) V -∗ WP c (k ⟨⟩) Q) -∗ WP c (.op (.store ybM (blkR a q) w Finset.univ hx hm) k) Q) := by
  unfold anyW ownsW
  iintro ⟨%f, H⟩ Hk
  iapply (wp_store Variants.none (c : Thread nD τ) none Set.univ (m := ybM) (r := blkR a q) (Mk := Finset.univ) (S := (ybW a q).view.set) (f := f)
    (by rw [View.setOn_univ, yb_access_set, ybW_set])) $$ H
  iintro H
  iapply Hk
  iexists ((ybM.access (blkR a q)).write (Elt F) f w Finset.univ)
  isplitr
  · ipureintro; exact (yb_store a q f w).trans hw
  · iexact H

end Cert.KernelIdeal.Hand

end
-- ==== Proof.KernelIdeal.OutVal.lean ====
/-
What the result of a device is, element by element, and how the pieces stored into it and the slabs read for it agree with that.
-/
module

public import proofs.«01_k».proof.Proof.KernelIdeal.Windows
public import Idealize.ShloMosaic.Lib.ValueIdxCore

@[expose] public section

noncomputable section

namespace Cert.KernelIdeal.Hand

open Cert.KernelIdeal Cert.KernelIdeal.Gen
open Idealize.ShloMosaic Idealize.ShloMosaic.TcCoe
open Idealize.ShloMosaic.ValueIdx (ix2 eq_ix2)

variable {F : FTy → Type} [FloatOps F]

/-- Four blocks of 256 rows, one under the other. -/
def stack {α : Type} (V : Fin 4 → S256x512.Idx → α) : S1024x512.Idx → α := fun i =>
  V ⟨(i 0).val / 256, by have h : (i 0).val < 1024 := (i 0).isLt; omega⟩
    (ix2 ⟨(i 0).val % 256, Nat.mod_lt _ (by omega)⟩ (i 1))

variable (m : (ℓ : Loc nD τ sig) → Buf (Elt F) ℓ)

/-- The rows of the result of device `c` that device `o` computes: its own as computed, another's as they arrive, widened. -/
def outBlk (c o : Dev nD) : S1024x512.Idx → F .f32 :=
  if o = c then stack (yv m c c) else extf .f32 (stack (ybv m o c)) bitsLt_bf16_f32

/-- The result of device `c`. -/
def outAt (c : Dev nD) : S4096x512.Idx → F .f32 := fun i =>
  outBlk m c ⟨(i 0).val / 1024, by have h : (i 0).val < 4096 := (i 0).isLt; show _ < 4; omega⟩
    (ix2 ⟨(i 0).val % 1024, Nat.mod_lt _ (by omega)⟩ (i 1))

/-- Row `1024 o + 256 q + r` of the result. -/
theorem outAt_row (c o : Dev nD) (i : S4096x512.Idx) (p : S1024x512.Idx) (h0 : (i 0).val = 1024 * o.val + (p 0).val) (h1 : (i 1).val = (p 1).val) :
    outAt m c i = outBlk m c o p := by
  have hp : (p 0).val < 1024 := (p 0).isLt
  unfold outAt
  have e1 : (⟨(i 0).val / 1024, by have h : (i 0).val < 4096 := (i 0).isLt; show _ < 4; omega⟩ : Dev nD) = o := Fin.ext (by
    show (i 0).val / 1024 = o.val; omega)
  have e2 : (ix2 ⟨(i 0).val % 1024, Nat.mod_lt _ (by omega)⟩ (i 1) : S1024x512.Idx) = p := funext fun a => match a with
    | ⟨0, _⟩ => Fin.ext (by show (i 0).val % 1024 = (p 0).val; omega)
    | ⟨1, _⟩ => Fin.ext h1
  rw [e1, e2]

theorem stack_row {α : Type} (V : Fin 4 → S256x512.Idx → α) (q : Fin 4) (r : S256x512.Idx) (p : S1024x512.Idx)
    (h0 : (p 0).val = 256 * q.val + (r 0).val) (h1 : (p 1).val = (r 1).val) : stack V p = V q r := by
  have hp : (r 0).val < 256 := (r 0).isLt
  unfold stack
  have e1 : (⟨(p 0).val / 256, by have h : (p 0).val < 1024 := (p 0).isLt; omega⟩ : Fin 4) = q := Fin.ext (by
    show (p 0).val / 256 = q.val; omega)
  have e2 : (ix2 ⟨(p 0).val % 256, Nat.mod_lt _ (by omega)⟩ (p 1) : S256x512.Idx) = r := funext fun a => match a with
    | ⟨0, _⟩ => Fin.ext (by show (p 0).val % 256 = (r 0).val; omega)
    | ⟨1, _⟩ => Fin.ext h1
  rw [e1, e2]

/-! ## Stores into the result -/

/-- A store through a rectangle of the result: on it, the payload; off it, what was there. -/
theorem out_store {off size : Fin 2 → ℕ} {inb : ∀ i : Fin 2, off i + size i ≤ S4096x512.size i} (f : oM.view.ty.Contents (Elt F))
    (w : (Rect.unit (s := S4096x512) off size inb).shape.Idx → Elt F .f32) (G : S4096x512.Idx → F .f32)
    (hw : ∀ (x : (Rect.unit (s := S4096x512) off size inb).shape.Idx) (i : S4096x512.Idx), (∀ a, (i a).val = off a + (x a).val) → w x = G i)
    (i : S4096x512.Idx) (hi : (∀ a, off a ≤ (i a).val ∧ (i a).val < off a + size a) ∨ f i = G i) :
    (oM.access (Rect.unit (s := S4096x512) off size inb)).write (Elt F) f w Finset.univ i = G i := by
  by_cases h : ∀ a, off a ≤ (i a).val ∧ (i a).val < off a + size a
  · have hx : i ∈ (oM.access (Rect.unit (s := S4096x512) off size inb)).set := by
      rw [show (oM.access (Rect.unit (s := S4096x512) off size inb)).set = (Rect.unit (s := S4096x512) off size inb).set from View.set_slice_whole _ _]
      exact Rect.mem_set_unit.mpr h
    obtain ⟨x, -, hx⟩ := Finset.mem_map.mp (show i ∈ Finset.univ.map (oM.access (Rect.unit (s := S4096x512) off size inb)).emb from hx)
    subst hx
    refine (View.write_emb_of_mem (v := oM.access (Rect.unit (s := S4096x512) off size inb)) f w (Finset.mem_univ x)).trans ?_
    refine hw x _ fun a => ?_
    show off a + 1 * (x a).val = off a + (x a).val
    rw [Nat.one_mul]
  · refine (View.write_of_not_mem (v := oM.access (Rect.unit (s := S4096x512) off size inb)) f w _ (i := i) ?_).trans (hi.resolve_left h)
    rw [View.setOn_univ]
    intro hi'
    rw [show (oM.access (Rect.unit (s := S4096x512) off size inb)).set = (Rect.unit (s := S4096x512) off size inb).set from View.set_slice_whole _ _] at hi'
    exact h (Rect.mem_set_unit.mp hi')

/-- The rectangle of a quarter of the device's own rows holds what `outAt` says; -/
theorem own_row (c : Dev nD) (q : Fin 4) (x : S256x512.Idx) (i : S4096x512.Idx) (h : ∀ a, (i a).val = (![1024 * c.val + 256 * q.val, 0] : Fin 2 → ℕ) a + (x a).val) :
    yv m c c q x = outAt m c i := by
  have h0 : (i 0).val = 1024 * c.val + 256 * q.val + (x 0).val := h 0
  have h1 : (i 1).val = 0 + (x 1).val := h 1
  have hx : (x 0).val < 256 := (x 0).isLt
  have hq := q.isLt
  rw [outAt_row m c c i (ix2 ⟨256 * q.val + (x 0).val, by omega⟩ (x 1)) (by show _ = 1024 * c.val + (256 * q.val + (x 0).val); omega) (by show _ = (x 1).val; omega)]
  unfold outBlk
  rw [if_pos rfl]
  exact (stack_row _ q x _ rfl rfl).symm
/-- so does that of the rows of another device. -/
theorem slab_row (c o : Dev nD) (ho : o ≠ c) (x : S1024x512.Idx) (i : S4096x512.Idx) (h : ∀ a, (i a).val = (![1024 * o.val, 0] : Fin 2 → ℕ) a + (x a).val) :
    extf .f32 (stack (ybv m o c)) bitsLt_bf16_f32 x = outAt m c i := by
  have h0 : (i 0).val = 1024 * o.val + (x 0).val := h 0
  have h1 : (i 1).val = 0 + (x 1).val := h 1
  rw [outAt_row m c o i x h0 (by omega)]
  unfold outBlk
  rw [if_neg ho]

/-! ## Loads of a landing slab -/

/-- A slab whose quarters read `V` is, with its unit axis dropped, the four stacked. -/
theorem slab_load (a : Fin 3) (V : Fin 4 → S256x512.Idx → Elt F .bf16) (g : rbM.view.ty.Contents (Elt F))
    (h : ∀ q, (rbW a q).view.read (Elt F) g = V q) :
    shapeCast S1024x512 (rbM.view.readAt (Elt F) (slabR a).toLoadRect g) shapeCasts_S1x1024x512_S1024x512 = stack V := by
  funext p
  have hp : (p 0).val < 1024 := (p 0).isLt
  set q : Fin 4 := ⟨(p 0).val / 256, by omega⟩ with hq
  set r : S256x512.Idx := ix2 ⟨(p 0).val % 256, Nat.mod_lt _ (by omega)⟩ (p 1) with hr
  rw [stack_row V q r p (by show (p 0).val = 256 * ((p 0).val / 256) + (p 0).val % 256; omega) rfl, ← h q]
  have e1 := shapeCast_dropUnit_apply ![1024, 512] (rbM.view.readAt (Elt F) (slabR a).toLoadRect g) shapeCasts_S1x1024x512_S1024x512 p
  have e2 := shapeCast_dropUnit_apply ![256, 512] (rbM.view.readAt (Elt F) (blkR a q).toLoadRect g) shapeCasts_S1x256x512_S256x512 r
  refine e1.trans (Eq.trans ?_ e2.symm)
  show g _ = g _
  refine congrArg g (funext fun x => Fin.ext ?_)
  fin_cases x
  · rfl
  · show 0 + 1 * (p 0).val = 256 * ((p 0).val / 256) + 1 * ((p 0).val % 256)
    omega
  · rfl

/-! ## The offsets the program computes -/

theorem off1_eq1 (c : Dev nD) : k0_off1 c 1#32 = ![0, 512 * (peer c 0).val] := by revert c; decide +kernel
theorem off1_eq2 (c : Dev nD) : k0_off1 c 2#32 = ![0, 512 * (peer c 1).val] := by revert c; decide +kernel
theorem off1_eq3 (c : Dev nD) : k0_off1 c 3#32 = ![0, 512 * (peer c 2).val] := by revert c; decide +kernel
theorem off1_eq4 (c : Dev nD) : k0_off1 c 4#32 = ![0, 512 * c.val] := by revert c; decide +kernel
theorem off2_eq0 (c : Dev nD) : k0_off2 c 0#32 = ![1024 * c.val + 256 * (0 : Fin 4).val, 0] := by revert c; decide +kernel
theorem off2_eq1 (c : Dev nD) : k0_off2 c 256#32 = ![1024 * c.val + 256 * (1 : Fin 4).val, 0] := by revert c; decide +kernel
theorem off2_eq2 (c : Dev nD) : k0_off2 c 512#32 = ![1024 * c.val + 256 * (2 : Fin 4).val, 0] := by revert c; decide +kernel
theorem off2_eq3 (c : Dev nD) : k0_off2 c 768#32 = ![1024 * c.val + 256 * (3 : Fin 4).val, 0] := by revert c; decide +kernel
theorem off3_eq1 (c : Dev nD) : k0_off3 c 1#32 = ![1024 * (peer c 0).val, 0] := by revert c; decide +kernel
theorem off3_eq2 (c : Dev nD) : k0_off3 c 2#32 = ![1024 * (peer c 1).val, 0] := by revert c; decide +kernel
theorem off3_eq3 (c : Dev nD) : k0_off3 c 3#32 = ![1024 * (peer c 2).val, 0] := by revert c; decide +kernel

theorem peer_ne (c : Dev nD) (a : Fin 3) : peer c a ≠ c := by revert c a; decide

end Cert.KernelIdeal.Hand

end
-- ==== Proof.KernelIdeal.Remote.lean ====
/-
The effects that reach across devices: the barrier, the copies to the peers and the waits for them, the loads of the landing
slabs and the stores into the result.  Each lemma turns one piece of the device's state into the next.
-/
module

public import proofs.«01_k».proof.Proof.KernelIdeal.Local
public import proofs.«01_k».proof.Proof.KernelIdeal.OutVal

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records every device shares -/

/-- The invariant of every cell, at the name `K` gives it, and that its round 0 is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (c : Dev nD) (i : CK) : records m K ⊢ cellInv ER (Rd m) (K (c, i)) (kcell (c, i)) := by
  unfold records
  exact (sep_elim_left).trans (bigSep_elim (Finset.mem_univ (c, i)))
theorem reached_at (K : Dev nD × CK → ℕ) (c : Dev nD) (i : CK) : records m K ⊢ reached ER (kcell (c, i)) 0 := by
  unfold records
  exact (sep_elim_right).trans (bigSep_elim (Finset.mem_univ (c, i)))

/-! ## The cells by their semaphores -/

section Sem
variable (c : Dev nD) (a : Fin 3) (q : Fin 4)

theorem mem_bar' (d : Fin 3) : d ∈ (Rd (F := F) m).duties ((c : Thread nD τ), .reg barS) 0 := by
  show d ∈ (Rd (F := F) m).duties (barCell c) 0
  rw [duties_bar]; exact Finset.mem_univ _
theorem expect_bar' : (Rd (F := F) m).expect ((c : Thread nD τ), .reg barS) 0 = 3 := expect_bar m c
theorem payload_bar' (d : Fin 3) : (Rd (F := F) m).payload ((c : Thread nD τ), .reg barS) 0 d = barPay c d := payload_bar m c d
theorem rest_bar' : bigSep ((Rd (F := F) m).duties ((c : Thread nD τ), .reg barS) 0 \ ∅) (fun d => (Rd (F := F) m).payload ((c : Thread nD τ), .reg barS) 0 d)
    = iprop(barPay c 0 ∗ barPay c 1 ∗ barPay c 2) := rest_bar m c
theorem rest_rcv' : bigSep ((Rd (F := F) m).duties ((c : Thread nD τ), .dma (rcvS a q)) 0 \ ∅) (fun d => (Rd (F := F) m).payload ((c : Thread nD τ), .dma (rcvS a q)) 0 d)
    = rcvPay m c a q := rest_rcv m c a q
theorem rest_snd' : bigSep ((Rd (F := F) m).duties ((c : Thread nD τ), .dma (sndS a q)) 0 \ ∅) (fun d => (Rd (F := F) m).payload ((c : Thread nD τ), .dma (sndS a q)) 0 d)
    = sndPay c a q := rest_snd m c a q

end Sem

/-! ## The barrier -/

/-- A signal to the device `a + 1` places on, with the landing slab it will copy into. -/
theorem bar_signal (K : Dev nD × CK → ℕ) (c n : Dev nD) (a : Fin 3) (hn : n = peer c a) {k' : ℕ} (hk : k' = 1) (O O' : CellTallies nD τ sig Unit)
    (hO : O' = O + tallyAt (barCell (peer c a)) () 1)
    {α : Type} {Q : α → sProp 𝕄} {k : PUnit → Prog (TpuEff nD τ sig (Elt F) Λ₀ .tc) α} :
    iprop(records m K ∗ dutyTok ER (barCell (peer c a)) 0 a ∗ slabPts c a ∗ Owes c O')
      ⊢ iprop((Owes c O -∗ WP c (k ⟨⟩) Q) -∗ WP c (.op (.semSignal ((n, .tc) : Thread nD τ) barS k') k) Q) := by
  subst hn; subst hk
  unfold Owes
  iintro ⟨#HR, Ht, Hs, %W, HO⟩ Hk
  iapply (Rounds.wp_signal Variants.none ER (Rd m) (c : Thread nD τ) none (dst := (peer c a : Thread nD τ)) (κ := K (peer c a, kBar))
      (d := a) (r := 0) (mem_bar' m (peer c a) a) (amount_bar m (peer c a) a) () O hO (W := W)) $$ [HO Ht Hs]
  · isplitr; · iapply (inv_at m K (peer c a) kBar); iexact HR
    isplitl [HO]; · iexact HO
    isplitl [Ht]; · iexact Ht
    isplitl [Hs]
    · iapply (show slabPts c a ⊢ (Rd (F := F) m).payload ((peer c a : Thread nD τ), .reg barS) 0 a from by
        rw [payload_bar']; unfold barPay; rw [peer_rev])
      iexact Hs
    · iapply (reached_at m K (peer c a) kBar); iexact HR
  iintro HO
  iapply Hk
  iexists W; iexact HO

/-- The wait for the three peers, whose slabs come with it. -/
theorem bar_wait (K : Dev nD × CK → ℕ) (c : Dev nD) {k' : ℕ} (hk : k' = 3) {O : CellTallies nD τ sig Unit} (hO : Above 2 O)
    {α : Type} {Q : α → sProp 𝕄} {k : PUnit → Prog (TpuEff nD τ sig (Elt F) Λ₀ .tc) α} :
    iprop(records m K ∗ levAts L lv ∗ atPos ER (barCell c) 0 ∅ 0 ∗ cred (tallyAt (barCell c) () 3) ∗ Owes c O)
      ⊢ iprop((iprop(barPay c 0 ∗ barPay c 1 ∗ barPay c 2 ∗ semVal (barCell c) 0 ∗ Owes c O) -∗ WP c (k ⟨⟩) Q)
          -∗ WP c (.op (.semWait barS k') k) Q) := by
  subst hk
  unfold Owes
  iintro ⟨#HR, #Hlev, Hat, Hc, %W, HO⟩ Hk
  iapply (Rounds.wp_wait_rest_token Variants.none ER (Rd m) (c : Thread nD τ) none (κ := K (c, kBar))
      (wpE_semWait_eq Variants.none (c : Thread nD τ) none Set.univ) (Set.mem_univ _) () (O := O) (W := W) (R := 0) (m := 0) (T := ∅)
      ((Nat.zero_add _).trans (expect_bar' m c).symm)) $$ [Hc HO Hat]
  · isplitr; · iapply (inv_at m K c kBar); iexact HR
    isplitl [Hc]; · iexact Hc
    isplitl [HO]; · iexact HO
    isplitr; · iapply (mayWait_of_above c (.reg barS) (n := 1) (by rw [show (SemLoc.reg barS : SemLoc sig) = csem kBar from rfl, kind_csem]; rfl) hO); iexact Hlev
    iexact Hat
  iintro ⟨HO, Hat, -, Hpay⟩
  ihave Hp := (Entails.of_eq (rest_bar' m c)) $$ Hpay
  imod (Rounds.cell_close ER (Rd m) (Set.mem_univ (K (c, kBar))) (fun h => h) (R := 0 + 1) (duties_later m (barCell c))) $$ [Hat] with Hz
  · isplitr; · iapply (inv_at m K c kBar); iexact HR
    iexact Hat
  iapply Hk
  icases Hp with ⟨H0, H1, H2⟩
  isplitl [H0]; · iexact H0
  isplitl [H1]; · iexact H1
  isplitl [H2]; · iexact H2
  isplitl [Hz]; · iexact Hz
  iexists _; iexact HO

/-! ## The copies to the peers -/

/-- The two duties a copy of block `(a, q)` pays: of its departure, and of its arrival at the peer. -/
def sendTok (c : Dev nD) (a : Fin 3) (q : Fin 4) : sProp 𝕄 :=
  iprop(dutyTok ER (sndCell c a q) 0 0 ∗ dutyTok ER (rcvCell (peer c a) (rev a) q) 0 0)

theorem mem_snd (c : Dev nD) (a : Fin 3) (q : Fin 4) : (0 : Fin 3) ∈ (Rd (F := F) m).duties (sndCell c a q) 0 := by
  rw [duties_snd]; exact Finset.mem_singleton_self _
theorem mem_rcv (c : Dev nD) (a : Fin 3) (q : Fin 4) : (0 : Fin 3) ∈ (Rd (F := F) m).duties (rcvCell c a q) 0 := by
  rw [duties_rcv]; exact Finset.mem_singleton_self _
/-- The departed block, handed back; -/
theorem pay_snd (c : Dev nD) (a : Fin 3) (q : Fin 4) (fs : Buf (Elt F) ((ybW a q).view.loc (c : Thread nD τ))) :
    ((ybW a q).view.loc (c : Thread nD τ) ↦[(ybW a q).view.set]{fullShare} fs : sProp 𝕄) ⊢ (Rd m).payload (sndCell c a q) 0 0 := by
  rw [payload_snd]
  unfold sndPay anyW
  iintro H; iexists fs; iexact H
/-- the arrived one, handed to the peer. -/
theorem pay_rcv (c : Dev nD) (a : Fin 3) (q : Fin 4) (fs : Buf (Elt F) ((ybW a q).view.loc (c : Thread nD τ)))
    (fd : Buf (Elt F) ((rbW (rev a) q).view.loc (peer c a : Thread nD τ))) (hfs : (ybW a q).view.read (Elt F) fs = ybv m c (peer c a) q) :
    ((rbW (rev a) q).view.loc (peer c a : Thread nD τ) ↦[(rbW (rev a) q).view.set]{fullShare}
        ((rbW (rev a) q).view.write (Elt F) fd ((ybW a q).view.read (Elt F) fs) Finset.univ) : sProp 𝕄)
      ⊢ (Rd m).payload (rcvCell (peer c a) (rev a) q) 0 0 := by
  rw [payload_rcv]
  unfold rcvPay ownsW
  rw [peer_rev]
  iintro H
  iexists ((rbW (rev a) q).view.write (Elt F) fd ((ybW a q).view.read (Elt F) fs) Finset.univ)
  isplitr
  · ipureintro; exact (View.read_write_univ _ _).trans hfs
  · iexact H

/-- Every block has the one credit. -/
theorem yb_credit (a : Fin 3) (q : Fin 4) : (ybW a q).view.dmaCredit = N := rfl
theorem rb_credit (a : Fin 3) (q : Fin 4) : (rbW a q).view.dmaCredit = N := rfl

/-- A copy starts: the outgoing block and the peer's landing block go with it, and its credit is owed no more. -/
theorem send (K : Dev nD × CK → ℕ) (c n : Dev nD) (a : Fin 3) (q : Fin 4) (hn : n = peer c a) (l : List (Fin 3 × Fin 4))
    {hsc : (rbW (rev a) q).view.ref.isScScratch = false} {hsrc : (ybW a q).view.WordExact} {hdst : (rbW (rev a) q).view.WordExact}
    {hsem : DmaTarget.Typed .vmem (.dma (rcvS (rev a) q)) (.remote (Dev.tc n : Thread nD τ) (rbW (rev a) q) (.dma (sndS a q)) hsc)}
    {α : Type} {Q : α → sProp 𝕄} {k : PUnit → Prog (TpuEff nD τ sig (Elt F) Λ₀ .tc) α} :
    iprop(records m K ∗ sendTok c a q ∗ ownsW c (ybW a q) (ybv m c (peer c a) q) ∗ anyW (peer c a) (rbW (rev a) q) ∗ Owes c (Ow c ((a, q) :: l)))
      ⊢ iprop((iprop(cred (tallyAt (sndCell c a q) () N) ∗ Owes c (Ow c l)) -∗ WP c (k ⟨⟩) Q)
          -∗ WP c (.op (.enqueueDma (ybW a q) (.remote (Dev.tc n : Thread nD τ) (rbW (rev a) q) (.dma (sndS a q)) hsc) (.dma (rcvS (rev a) q)) hsrc hdst hsem) k) Q) := by
  subst hn
  unfold sendTok Owes ownsW anyW
  iintro ⟨#HR, ⟨Ht1, Ht2⟩, ⟨%fs, %hfs, Hs⟩, ⟨%fd, Hd⟩, ⟨%W, HO⟩⟩ Hk
  iapply (Rounds.wp_send_pointsTo Variants.none ER (Rd m) (c : Thread nD τ) none (κ₁ := K (c, kSnd a q)) (κ₂ := K (peer c a, kRcv (rev a) q))
    (r₁ := 0) (r₂ := 0) (d₁ := 0) (d₂ := 0) (fs := fs) (fd := fd) (q := fullShare)
    (mem_snd m c a q) (mem_rcv m (peer c a) (rev a) q)
    () () N rfl (amount_snd m c a q 0) (amount_rcv m (peer c a) (rev a) q 0) (Ow c l) rfl (W := W)
    (pay_snd m c a q fs) (pay_rcv m c a q fs fd hfs)) $$ [Ht1 Ht2 Hs Hd HO]
  · isplitr; · iapply (inv_at m K c (kSnd a q)); iexact HR
    isplitr; · iapply (inv_at m K (peer c a) (kRcv (rev a) q)); iexact HR
    isplitl [Hs]; · iexact Hs
    isplitl [Hd]; · iexact Hd
    isplitl [HO]; · iexact HO
    isplitl [Ht1]; · iexact Ht1
    isplitr; · iapply (reached_at m K c (kSnd a q)); iexact HR
    isplitl [Ht2]; · iexact Ht2
    iapply (reached_at m K (peer c a) (kRcv (rev a) q)); iexact HR
  iintro ⟨Hc, HO⟩
  iapply Hk
  isplitl [Hc]; · iexact Hc
  iexists W; iexact HO

/-- What a wait on a cell of one credit needs, apart from the records: the position, and the credit. -/
def waitTok (g : GSem nD τ sig) : sProp 𝕄 := iprop(atPos ER g 0 ∅ 0 ∗ cred (tallyAt g () N))

/-- The wait for an arrival; -/
theorem rcv_wait (K : Dev nD × CK → ℕ) (c : Dev nD) (a : Fin 3) (q : Fin 4)
    {sp' : Space} {s' : Shape} {e' : EltTy} {srcw : Memref sig .tc sp' s' e'} {hsrc : srcw.view.WordExact} {hdst : (rbW a q).view.WordExact}
    {α : Type} {Q : α → sProp 𝕄} {k : PUnit → Prog (TpuEff nD τ sig (Elt F) Λ₀ .tc) α} :
    iprop(records m K ∗ waitTok (rcvCell c a q) ∗ Owes c 0)
      ⊢ iprop((iprop(rcvPay m c a q ∗ semVal (rcvCell c a q) 0 ∗ Owes c 0) -∗ WP c (k ⟨⟩) Q)
          -∗ WP c (.op (.waitDma2 (rcvS a q) srcw (rbW a q) hsrc hdst) k) Q) := by
  unfold Owes waitTok
  iintro ⟨#HR, ⟨Hat, Hc⟩, %W, HO⟩ Hk
  iapply (Rounds.wp_wait_rest_token Variants.none ER (Rd m) (c : Thread nD τ) none (κ := K (c, kRcv a q)) (sm := .dma (rcvS a q)) (k' := N)
      (fun K' => (wpE_waitDma2_eq Variants.none (c : Thread nD τ) none Set.univ (sem := rcvS a q) (src := srcw) (dst := rbW a q) (hsrc := hsrc) (hdst := hdst) K').trans
        (by rw [rb_credit])) (Set.mem_univ _) () (O := 0) (W := W) (R := 0) (m := 0) (T := ∅)
      ((Nat.zero_add _).trans (expect_rcv m c a q).symm)) $$ [Hc HO Hat]
  · isplitr; · iapply (inv_at m K c (kRcv a q)); iexact HR
    isplitl [Hc]; · iexact Hc
    isplitl [HO]; · iexact HO
    isplitr; · rw [MayWait_zero]; iempintro
    iexact Hat
  iintro ⟨HO, Hat, -, Hpay⟩
  ihave Hp := (Entails.of_eq (rest_rcv' m c a q)) $$ Hpay
  imod (Rounds.cell_close ER (Rd m) (Set.mem_univ (K (c, kRcv a q))) (fun h => h) (R := 0 + 1) (duties_later m (rcvCell c a q))) $$ [Hat] with Hz
  · isplitr; · iapply (inv_at m K c (kRcv a q)); iexact HR
    iexact Hat
  iapply Hk
  isplitl [Hp]; · iexact Hp
  isplitl [Hz]; · iexact Hz
  iexists _; iexact HO

/-- the wait for a departure. -/
theorem snd_wait (K : Dev nD × CK → ℕ) (c : Dev nD) (a : Fin 3) (q : Fin 4)
    {sp' : Space} {s' : Shape} {e' : EltTy} {srcw : Memref sig .tc sp' s' e'} {hsrc : srcw.view.WordExact} {hdst : (ybW a q).view.WordExact}
    {α : Type} {Q : α → sProp 𝕄} {k : PUnit → Prog (TpuEff nD τ sig (Elt F) Λ₀ .tc) α} :
    iprop(records m K ∗ waitTok (sndCell c a q) ∗ Owes c 0)
      ⊢ iprop((iprop(sndPay c a q ∗ semVal (sndCell c a q) 0 ∗ Owes c 0) -∗ WP c (k ⟨⟩) Q)
          -∗ WP c (.op (.waitDma2 (sndS a q) srcw (ybW a q) hsrc hdst) k) Q) := by
  unfold Owes waitTok
  iintro ⟨#HR, ⟨Hat, Hc⟩, %W, HO⟩ Hk
  iapply (Rounds.wp_wait_rest_token Variants.none ER (Rd m) (c : Thread nD τ) none (κ := K (c, kSnd a q)) (sm := .dma (sndS a q)) (k' := N)
      (fun K' => (wpE_waitDma2_eq Variants.none (c : Thread nD τ) none Set.univ (sem := sndS a q) (src := srcw) (dst := ybW a q) (hsrc := hsrc) (hdst := hdst) K').trans
        (by rw [yb_credit])) (Set.mem_univ _) () (O := 0) (W := W) (R := 0) (m := 0) (T := ∅)
      ((Nat.zero_add _).trans (expect_snd m c a q).symm)) $$ [Hc HO Hat]
  · isplitr; · iapply (inv_at m K c (kSnd a q)); iexact HR
    isplitl [Hc]; · iexact Hc
    isplitl [HO]; · iexact HO
    isplitr; · rw [MayWait_zero]; iempintro
    iexact Hat
  iintro ⟨HO, Hat, -, Hpay⟩
  ihave Hp := (Entails.of_eq (rest_snd' m c a q)) $$ Hpay
  imod (Rounds.cell_close ER (Rd m) (Set.mem_univ (K (c, kSnd a q))) (fun h => h) (R := 0 + 1) (duties_later m (sndCell c a q))) $$ [Hat] with Hz
  · isplitr; · iapply (inv_at m K c (kSnd a q)); iexact HR
    iexact Hat
  iapply Hk
  isplitl [Hp]; · iexact Hp
  isplitl [Hz]; · iexact Hz
  iexists _; iexact HO

/-! ## The landing slabs -/

/-- The four quarters of a landing slab, arrived. -/
def landed (c : Dev nD) (a : Fin 3) : sProp 𝕄 := iprop(rcvPay m c a 0 ∗ rcvPay m c a 1 ∗ rcvPay m c a 2 ∗ rcvPay m c a 3)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A slab is held quarter by quarter. -/
theorem slab_pts (c : Dev nD) (a : Fin 3) (g : Buf (Elt F) (rbM.view.loc (c : Thread nD τ))) :
    (rbM.view.loc (c : Thread nD τ) ↦[(slabR a).set]{fullShare} g : sProp 𝕄)
      = iprop((rbM.view.loc (c : Thread nD τ) ↦[(rbW a 0).view.set]{fullShare} g) ∗ (rbM.view.loc (c : Thread nD τ) ↦[(rbW a 1).view.set]{fullShare} g)
        ∗ (rbM.view.loc (c : Thread nD τ) ↦[(rbW a 2).view.set]{fullShare} g) ∗ (rbM.view.loc (c : Thread nD τ) ↦[(rbW a 3).view.set]{fullShare} g)) := by
  have h := pointsTo_biUnion (ℓ := rbM.view.loc (c : Thread nD τ)) (q := fullShare) (f := g) (Ix := Unit) (Name := ℕ) (U := UU) (Lvl := ℕ)
    Finset.univ (fun q : Fin 4 => (blkR a q).set) (fun q _ q' _ hq => blk_disjoint (a, q) (a, q') (fun e => hq (congrArg Prod.snd e)))
  rw [slab_union, bigSep_fin4] at h
  rw [rbW_set, rbW_set, rbW_set, rbW_set]
  exact h

/-- A load of an arrived slab. -/
theorem rb_load (c : Dev nD) (a : Fin 3) {hl : rbM.view.LoadsAt (slabR a).toLoadRect}
    {α : Type} {Q : α → sProp 𝕄} {k : (S1x1024x512.Idx → Elt F .bf16) → Prog (TpuEff nD τ sig (Elt F) Λ₀ .tc) α} :
    landed m c a ⊢ iprop((∀ v : S1x1024x512.Idx → Elt F .bf16, ⌜shapeCast S1024x512 v shapeCasts_S1x1024x512_S1024x512 = stack (ybv m (peer c a) c)⌝
        -∗ slabPts c a -∗ WP c (k v) Q) -∗ WP c (.op (.load rbM (slabR a).toLoadRect hl) k) Q) := by
  unfold landed rcvPay ownsW
  iintro ⟨⟨%f0, %h0, H0⟩, ⟨%f1, %h1, H1⟩, ⟨%f2, %h2, H2⟩, ⟨%f3, %h3, H3⟩⟩ Hk
  have hb : ∀ (fs : Fin 4 → Buf (Elt F) (rbM.view.loc (c : Thread nD τ))),
      iprop((rbM.view.loc (c : Thread nD τ) ↦[(rbW a 0).view.set]{fullShare} fs 0) ∗ (rbM.view.loc (c : Thread nD τ) ↦[(rbW a 1).view.set]{fullShare} fs 1)
        ∗ (rbM.view.loc (c : Thread nD τ) ↦[(rbW a 2).view.set]{fullShare} fs 2) ∗ (rbM.view.loc (c : Thread nD τ) ↦[(rbW a 3).view.set]{fullShare} fs 3))
      ⊢ (iprop(∃ g : Buf (Elt F) (rbM.view.loc (c : Thread nD τ)), ⌜∀ q ∈ (Finset.univ : Finset (Fin 4)), ∀ i ∈ (blkR a q).set, g i = fs q i⌝
          ∗ (rbM.view.loc (c : Thread nD τ) ↦[(slabR a).set]{fullShare} g)) : sProp 𝕄) := fun fs => by
    have h := pointsTo_biUnion_join (ℓ := rbM.view.loc (c : Thread nD τ)) (q := fullShare) (Ix := Unit) (Name := ℕ) (U := UU) (Lvl := ℕ)
      Finset.univ (fun q : Fin 4 => (blkR a q).set) fs (fs 0)
      (fun q _ q' _ hq => blk_disjoint (a, q) (a, q') (fun e => hq (congrArg Prod.snd e)))
    rw [bigSep_fin4, slab_union] at h
    rw [rbW_set, rbW_set, rbW_set, rbW_set]
    exact h
  let fsel : Fin 4 → Buf (Elt F) (rbM.view.loc (c : Thread nD τ)) := fun q => match q with | 0 => f0 | 1 => f1 | 2 => f2 | 3 => f3
  ihave Hg := (hb fsel) $$ [H0 H1 H2 H3]
  · isplitl [H0]; · iexact H0
    isplitl [H1]; · iexact H1
    isplitl [H2] <;> iassumption
  icases Hg with ⟨%g, %hg, Hg⟩
  have hread : ∀ q, (rbW a q).view.read (Elt F) g = ybv m (peer c a) c q := fun q => by
    have e : ∀ i ∈ (rbW a q).view.set, g i = fsel q i :=
      fun i hi => hg q (Finset.mem_univ q) i (by rw [← rbW_set]; exact hi)
    refine (View.read_congr e).trans ?_
    fin_cases q
    · exact h0
    · exact h1
    · exact h2
    · exact h3
  iapply (wp_load_rect Variants.none (c : Thread nD τ) none Set.univ (m := rbM) (r := slabR a) (S := (slabR a).set) (f := g)
    (by rw [rb_access_set])) $$ Hg
  iintro Hg
  iapply Hk $$ []
  · ipureintro; exact slab_load a _ g hread
  unfold slabPts anyW
  ihave Hg' := (Entails.of_eq (slab_pts c a g)) $$ Hg
  icases Hg' with ⟨H0, H1, H2, H3⟩
  isplitl [H0]; · iexists g; iexact H0
  isplitl [H1]; · iexists g; iexact H1
  isplitl [H2]; · iexists g; iexact H2
  iexists g; iexact H3

/-! ## The result -/

/-- The result's buffer, right on the 256-row blocks in `T`. -/
def Out (c : Dev nD) (T : Set ℕ) : sProp 𝕄 :=
  iprop(∃ f : Buf (Elt F) (oM.view.loc (c : Thread nD τ)), ⌜∀ i : S4096x512.Idx, (i 0).val / 256 ∈ T → f i = outAt m c i⌝
    ∗ (oM.view.loc (c : Thread nD τ) ↦{fullShare} f))

/-- A load of it whose value is not used; -/
theorem out_load (c : Dev nD) (T : Set ℕ) {r : LoadRect S4096x512} {hl : oM.view.LoadsAt r}
    {α : Type} {Q : α → sProp 𝕄} {k : (r.shape.Idx → Elt F .f32) → Prog (TpuEff nD τ sig (Elt F) Λ₀ .tc) α} :
    Out m c T ⊢ iprop((∀ v : r.shape.Idx → Elt F .f32, Out m c T -∗ WP c (k v) Q) -∗ WP c (.op (.load oM r hl) k) Q) := by
  unfold Out
  iintro ⟨%f, %hf, H⟩ Hk
  iapply (wp_load Variants.none (c : Thread nD τ) none Set.univ (m := oM) (Finset.subset_univ _)) $$ H
  iintro H
  iapply Hk
  iexists f; isplitr; · (ipureintro; exact hf)
  iexact H

/-- a quarter of its own rows stored; -/
theorem out_put_own (c : Dev nD) (q : Fin 4) (T : Set ℕ) {off : Fin 2 → ℕ} (hoff : off = ![1024 * c.val + 256 * q.val, 0])
    {inb : ∀ i : Fin 2, off i + S256x512.size i ≤ S4096x512.size i} {w : S256x512.Idx → Elt F .f32} (hw : w = yv m c c q)
    {hx : (oM.access (Rect.unit (s := S4096x512) off S256x512.size inb)).Stores Finset.univ}
    {hm : (Finset.univ : Finset (Rect.unit (s := S4096x512) off S256x512.size inb).shape.Idx) = Finset.univ
      ∨ ∀ a, (Rect.unit (s := S4096x512) off S256x512.size inb).stride a = 1}
    {α : Type} {Q : α → sProp 𝕄} {k : PUnit → Prog (TpuEff nD τ sig (Elt F) Λ₀ .tc) α} :
    Out m c T ⊢ iprop((Out m c (insert (4 * c.val + q.val) T) -∗ WP c (k ⟨⟩) Q)
      -∗ WP c (.op (.store oM (Rect.unit (s := S4096x512) off S256x512.size inb) w Finset.univ hx hm) k) Q) := by
  subst hoff; subst hw
  unfold Out
  iintro ⟨%f, %hf, H⟩ Hk
  iapply (wp_store Variants.none (c : Thread nD τ) none Set.univ (m := oM) (r := Rect.unit (s := S4096x512) _ S256x512.size inb) (Mk := Finset.univ)
    (Finset.subset_univ _)) $$ H
  iintro H
  iapply Hk
  iexists ((oM.access (Rect.unit (s := S4096x512) _ S256x512.size inb)).write (Elt F) f (yv m c c q) Finset.univ)
  isplitr
  · ipureintro
    intro i hi
    refine out_store f _ (outAt m c) (fun x i h => own_row m c q x i h) i ?_
    rcases hi with hi | hi
    · left
      have h1 : (i 1).val < 512 := (i 1).isLt
      intro a
      fin_cases a
      · show 1024 * c.val + 256 * q.val ≤ (i 0).val ∧ (i 0).val < 1024 * c.val + 256 * q.val + 256
        omega
      · show 0 ≤ (i 1).val ∧ (i 1).val < 0 + 512
        omega
    · right; exact hf i hi
  · iexact H

/-- the rows of another device stored. -/
theorem out_put_slab (c o : Dev nD) (ho : o ≠ c) (T : Set ℕ) {off : Fin 2 → ℕ} (hoff : off = ![1024 * o.val, 0])
    {inb : ∀ i : Fin 2, off i + S1024x512.size i ≤ S4096x512.size i} {w : S1024x512.Idx → Elt F .f32} (hw : w = extf .f32 (stack (ybv m o c)) bitsLt_bf16_f32)
    {hx : (oM.access (Rect.unit (s := S4096x512) off S1024x512.size inb)).Stores Finset.univ}
    {hm : (Finset.univ : Finset (Rect.unit (s := S4096x512) off S1024x512.size inb).shape.Idx) = Finset.univ
      ∨ ∀ a, (Rect.unit (s := S4096x512) off S1024x512.size inb).stride a = 1}
    {α : Type} {Q : α → sProp 𝕄} {k : PUnit → Prog (TpuEff nD τ sig (Elt F) Λ₀ .tc) α} :
    Out m c T ⊢ iprop((Out m c ({n | n / 4 = o.val} ∪ T) -∗ WP c (k ⟨⟩) Q)
      -∗ WP c (.op (.store oM (Rect.unit (s := S4096x512) off S1024x512.size inb) w Finset.univ hx hm) k) Q) := by
  subst hoff; subst hw
  unfold Out
  iintro ⟨%f, %hf, H⟩ Hk
  iapply (wp_store Variants.none (c : Thread nD τ) none Set.univ (m := oM) (r := Rect.unit (s := S4096x512) _ S1024x512.size inb) (Mk := Finset.univ)
    (Finset.subset_univ _)) $$ H
  iintro H
  iapply Hk
  iexists ((oM.access (Rect.unit (s := S4096x512) _ S1024x512.size inb)).write (Elt F) f (extf .f32 (stack (ybv m o c)) bitsLt_bf16_f32) Finset.univ)
  isplitr
  · ipureintro
    intro i hi
    refine out_store f _ (outAt m c) (fun x i h => slab_row m c o ho x i h) i ?_
    rcases hi with hi | hi
    · left
      have h1 : (i 1).val < 512 := (i 1).isLt
      have h2 : (i 0).val / 256 / 4 = o.val := hi
      intro a
      fin_cases a
      · show 1024 * o.val ≤ (i 0).val ∧ (i 0).val < 1024 * o.val + 1024
        omega
      · show 0 ≤ (i 1).val ∧ (i 1).val < 0 + 512
        omega
    · right; exact hf i hi
  · iexact H

end Cert.KernelIdeal.Hand

end
-- ==== Proof.KernelIdeal.Values.lean ====
/-
What the kernel computes from what it loads: a loaded slot narrowed is a quarter of `x` or a band of columns of `w`, and their
product through the activation is the block that is stored.
-/
module

public import proofs.«01_k».proof.Proof.KernelIdeal.Remote

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A finished program has its result. -/
theorem finish (c : Dev nD) {α : Type} (a : α) {Q : α → sProp 𝕄} : Q a ⊢ WP c (.ret a) Q := by
  iintro H
  unfold WP
  rw [wp_ret]; imodintro
  iexact H

variable (m : (ℓ : Loc nD τ sig) → Buf (Elt F) ℓ)

/-- A slot holding quarter `q` of `x`, narrowed. -/
theorem narrow_x {c : Dev nD} {q : Fin 4} {v : S1x256x4096.Idx → Elt F .f32}
    (h : shapeCast S256x4096 v shapeCasts_S1x256x4096_S256x4096 = xrows m c q) : k0_pay2 v = xbv m c q := by
  show truncf .bf16 (shapeCast S256x4096 v shapeCasts_S1x256x4096_S256x4096) bitsLt_bf16_f32 = _
  rw [h]; rfl

/-- The same under the shape cast that the store takes. -/
theorem narrow_x_store {c : Dev nD} {q : Fin 4} {v : S1x256x4096.Idx → Elt F .f32}
    (h : shapeCast S256x4096 v shapeCasts_S1x256x4096_S256x4096 = xrows m c q) : k0_pay3 v = xbv m c q := by
  show shapeCast S256x4096 (k0_pay2 v) shapeCasts_S256x4096_S256x4096 = _
  rw [shapeCast_self]; exact narrow_x m h

/-- A narrowed quarter under the shape cast that the store takes. -/
theorem keep_x {c : Dev nD} {q : Fin 4} {x : FVec F S256x4096 .bf16} (h : x = xbv m c q) : k0_pay12 x = xbv m c q := by
  show shapeCast S256x4096 x shapeCasts_S256x4096_S256x4096 = _
  rw [shapeCast_self]; exact h

/-- A slot holding the columns of `w` for device `t`, narrowed. -/
theorem narrow_w {c : Dev nD} {t : Dev nD} {v : S1x4096x512.Idx → Elt F .f32}
    (h : shapeCast S4096x512 v shapeCasts_S1x4096x512_S4096x512 = wcols m c t) : k0_pay1 v = wbv m c t := by
  show truncf .bf16 (shapeCast S4096x512 v shapeCasts_S1x4096x512_S4096x512) bitsLt_bf16_f32 = _
  rw [h]; rfl

/-- The product of a quarter and of the columns for `t`, through the activation. -/
theorem act_of {c : Dev nD} {q : Fin 4} {t : Dev nD} {x : FVec F S256x4096 .bf16} {w : FVec F S4096x512 .bf16}
    (hx : x = xbv m c q) (hw : w = wbv m c t) : k0_pay18 w x = yv m c t q := by
  subst hx hw; rfl

/-- A narrowed block under the shape cast that the store takes. -/
theorem block_of {c : Dev nD} {q : Fin 4} {t : Dev nD} {y : FVec F S256x512 .bf16} (h : y = ybv m c t q) :
    shapeCast S256x512 (k0_pay25 y) shapeCasts_S1x256x512_S256x512 = ybv m c t q := by
  show shapeCast S256x512 (shapeCast S1x256x512 y shapeCasts_S256x512_S1x256x512) shapeCasts_S1x256x512_S256x512 = _
  rw [shapeCast_shapeCast]; exact h

/-- An activated block narrowed. -/
theorem narrow_act {c : Dev nD} {q : Fin 4} {t : Dev nD} {y : FVec F S256x512 .f32} (h : y = yv m c t q) :
    shapeCast S256x512 (k0_pay23 y) shapeCasts_S1x256x512_S256x512 = ybv m c t q := by
  exact block_of m (y := truncf .bf16 y bitsLt_bf16_f32) (by rw [h]; rfl)

/-- The whole step from narrowed operands to the stored block. -/
theorem store_of {c : Dev nD} {q : Fin 4} {t : Dev nD} {x : FVec F S256x4096 .bf16} {w : FVec F S4096x512 .bf16}
    (hx : x = xbv m c q) (hw : w = wbv m c t) :
    shapeCast S256x512 (k0_pay21 w x) shapeCasts_S1x256x512_S256x512 = ybv m c t q :=
  narrow_act m (y := k0_pay18 w x) (act_of m hx hw)

/-- A received slab widened. -/
theorem widen {o c : Dev nD} {v : S1x1024x512.Idx → Elt F .bf16}
    (h : shapeCast S1024x512 v shapeCasts_S1x1024x512_S1024x512 = stack (ybv m o c)) :
    k0_pay32 v = extf .f32 (stack (ybv m o c)) bitsLt_bf16_f32 := by
  show extf .f32 (shapeCast S1024x512 v shapeCasts_S1x1024x512_S1024x512) bitsLt_bf16_f32 = _
  rw [h]

end Cert.KernelIdeal.Hand

end
-- ==== Proof.KernelIdeal.PartsA.lean ====
/-
The first steps of the body: the rendezvous, the first copies, the first block sent.
-/
module

public import proofs.«01_k».proof.Proof.KernelIdeal.Values

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

section
variable (h0 : xM.IsWhole) (h1 : wM.IsWhole) (h2 : oM.IsWhole) (h3 : xsM.IsWhole) (h4 : xbM.IsWhole) (h5 : wsM.IsWhole) (h6 : ybM.IsWhole) (h7 : rbM.IsWhole)

/-- The first copies start: the first quarter of `x` and the columns for the device two places on. -/
theorem part1 (c : Dev nD) {Q : (Σ' (d0 : Dev nD) (v2 : BitVec 32) (v25 : Sems sig S_) (v28 : BitVec 32) (v29 : BitVec 32), BitVec 1) → sProp 𝕄} :
    iprop(xIdle m c 0 ∗ wIdle m c 0)
      ⊢ iprop((∀ r : (Σ' (d0 : Dev nD) (v2 : BitVec 32) (v25 : Sems sig S_) (v28 : BitVec 32) (v29 : BitVec 32), BitVec 1), ⌜r.1 = c ∧ r.2.2.1 = SemArray.scalar (sig.barrier 0 rfl)⌝ -∗ iprop(xFly m c 0 0 ∗ wFly m c 0 (peer c 1)) -∗ Q r)
        -∗ WP c (k0_part1 (F := F) xM h0 wM h1 oM h2 xsM h3 xbM h4 wsM h5 ybM h6 rbM h7 cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro ⟨X0, W0⟩ Hk
  iapply (x_start m c 0 0) $$ X0; iintro X0
  iapply (w_start m c 0 (peer c 1) (off1_eq2 c)) $$ W0; iintro W0
  iapply (finish c _)
  iapply Hk $$ []
  · ipureintro; exact ⟨rfl, rfl⟩
  isplitl [X0] <;> iassumption

/-- Two of the other devices are told that their slabs here may be written. -/
theorem part2 (c : Dev nD) (v2 v28 v29 : BitVec 32) (v30 : BitVec 1) {Q : (Σ' (v63 : BitVec 32), BitVec 32) → sProp 𝕄} :
    iprop(records m K ∗ dutyTok ER (barCell (peer c 0)) 0 0 ∗ slabPts c 0 ∗ dutyTok ER (barCell (peer c 1)) 0 1 ∗ slabPts c 1 ∗ Owes c (O₀ c))
      ⊢ iprop((∀ r : (Σ' (v63 : BitVec 32), BitVec 32), iprop(Owes c (Ob1 c)) -∗ Q r)
        -∗ WP c (k0_part2 (F := F) xM h0 wM h1 oM h2 xsM h3 xbM h4 wsM h5 ybM h6 rbM h7 cc0_scratch5 cc0_scratch6 cc0_scratch7 cc0_scratch8 c v2 (SemArray.scalar (sig.barrier 0 rfl)) v28 v29 v30) Q) := by
  rw [k0_part2_eq_skeleton]; unfold k0_part2_skel
  simp only [semSignalWord, semWaitWord, Prog.lift, Prog.bind_op, Prog.bind_ret, Prog.pure_eq_ret, wp_deviceId]
  iintro ⟨#HR, B0, S0, B1, S1, HO⟩ Hk
  iapply (bar_signal m K c _ 0 (dev1_eq c) rfl (Ob2 c) (O₀ c) rfl) $$ [B0 S0 HO]
  · isplitr; · iexact HR
    isplitl [B0]; · iexact B0
    isplitl [S0] <;> iassumption
  iintro HO
  iapply (bar_signal m K c _ 1 (dev2_eq c) rfl (Ob1 c) (Ob2 c) rfl) $$ [B1 S1 HO]
  · isplitr; · iexact HR
    isplitl [B1]; · iexact B1
    isplitl [S1] <;> iassumption
  iintro HO
  iapply (finish c _)
  iapply Hk
  iexact HO

/-- The third is told; then all three have said the same here, and the first columns of `w` are in. -/
theorem part3 (c : Dev nD) (v2 v63 z : BitVec 32) {Q : PUnit → sProp 𝕄} :
    iprop(records m K ∗ levAts L lv ∗ dutyTok ER (barCell (peer c 2)) 0 2 ∗ slabPts c 2 ∗ atPos ER (barCell c) 0 ∅ 0 ∗ cred (tallyAt (barCell c) () 3) ∗ wFly m c 0 (peer c 1) ∗ Owes c (Ob1 c))
      ⊢ iprop((∀ r : PUnit, iprop(barPay c 0 ∗ barPay c 1 ∗ barPay c 2 ∗ semVal (barCell c) 0 ∗ wFull m c 0 (peer c 1) ∗ Owes c (Ow c order)) -∗ Q r)
        -∗ WP c (k0_part3 (F := F) xM h0 wM h1 oM h2 xsM h3 xbM h4 wsM h5 ybM h6 rbM h7 cc0_scratch5 cc0_scratch6 cc0_scratch7 cc0_scratch8 c v2 (SemArray.scalar (sig.barrier 0 rfl)) v63 z) Q) := by
  rw [k0_part3_eq_skeleton]; unfold k0_part3_skel
  simp only [semSignalWord, semWaitWord, Prog.lift, Prog.bind_op, Prog.bind_ret, Prog.pure_eq_ret, wp_deviceId]
  iintro ⟨#HR, #Lv, B2, S2, BA, BC, W0, HO⟩ Hk
  iapply (bar_signal m K c _ 2 (dev3_eq c) rfl (Ow c order) (Ob1 c) rfl) $$ [B2 S2 HO]
  · isplitr; · iexact HR
    isplitl [B2]; · iexact B2
    isplitl [S2] <;> iassumption
  iintro HO
  iapply (bar_wait m K c rfl (above_Ow c _)) $$ [BA BC HO]
  · isplitr; · iexact HR
    isplitr; · iexact Lv
    isplitl [BA]; · iexact BA
    isplitl [BC] <;> iassumption
  iintro ⟨E0, E1, E2, BV, HO⟩
  iapply (w_wait m c 0 (peer c 1) ((above_Ow c _).mono (by decide))) $$ [W0 HO]
  · isplitr; · iexact Lv
    isplitl [W0] <;> iassumption
  iintro ⟨W0, HO⟩
  iapply (finish c _)
  iapply Hk
  isplitl [E0]; · iexact E0
  isplitl [E1]; · iexact E1
  isplitl [E2]; · iexact E2
  isplitl [BV]; · iexact BV
  isplitl [W0] <;> iassumption

/-- The next copies start, and the first block is computed from the first quarter. -/
theorem part4 (c : Dev nD) (l : List (Fin 3 × Fin 4)) {Q : (Σ' (v101 : FVec F S4096x512 .bf16), FVec F S1x256x512 .bf16) → sProp 𝕄} :
    iprop(levAts L lv ∗ wIdle m c 1 ∗ wFull m c 0 (peer c 1) ∗ xIdle m c 1 ∗ xFly m c 0 0 ∗ XB m c 0 ∗ anyW c (ybW 1 0) ∗ Owes c (Ow c l))
      ⊢ iprop((∀ r : (Σ' (v101 : FVec F S4096x512 .bf16), FVec F S1x256x512 .bf16), ⌜r.1 = wbv m c (peer c 1) ∧ shapeCast S256x512 r.2 shapeCasts_S1x256x512_S256x512 = ybv m c (peer c 1) 0⌝ -∗ iprop(wFly m c 1 (peer c 0) ∗ wFull m c 0 (peer c 1) ∗ xFly m c 1 1 ∗ xFull m c 0 0 ∗ XB m c 1 ∗ anyW c (ybW 1 0) ∗ Owes c (Ow c l)) -∗ Q r)
        -∗ WP c (k0_part4 (F := F) xM h0 wM h1 oM h2 xsM h3 xbM h4 wsM h5 ybM h6 rbM h7 cc0_scratch5 cc0_scratch6 cc0_scratch7 cc0_scratch8 c) Q) := by
  rw [k0_part4_eq_skeleton]; unfold k0_part4_skel
  simp only [semSignalWord, semWaitWord, Prog.lift, Prog.bind_op, Prog.bind_ret, Prog.pure_eq_ret, wp_deviceId]
  iintro ⟨#Lv, W1, W0, X1, X0, XB, Y10, HO⟩ Hk
  iapply (w_start m c 1 (peer c 0) (off1_eq1 c)) $$ W1; iintro W1
  iapply (w_load m c 0 (peer c 1)) $$ W0; iintro %v %hv W0
  iapply (x_start m c 1 1) $$ X1; iintro X1
  iapply (x_wait m c 0 0 ((above_Ow c _).mono (by decide))) $$ [X0 HO]
  · isplitr; · iexact Lv
    isplitl [X0] <;> iassumption
  iintro ⟨X0, HO⟩
  iapply (x_load m c 0 0) $$ X0; iintro %x %hx X0
  iapply (xb_load m c 0 0) $$ XB; iintro %_z %h_z XB
  iapply (xb_store m c 0 (n := 0) rfl (narrow_x_store m hx)) $$ XB; iintro XB
  iapply (yb_load c 1 0) $$ Y10; iintro %_ Y10
  iapply (finish c _)
  iapply Hk $$ []
  · ipureintro; exact ⟨narrow_w m hv, store_of m (narrow_x m hx) (narrow_w m hv)⟩
  isplitl [W1]; · iexact W1
  isplitl [W0]; · iexact W0
  isplitl [X1]; · iexact X1
  isplitl [X0]; · iexact X0
  isplitl [XB]; · iexact XB
  isplitl [Y10] <;> iassumption

/-- The first block is stored and sent; the third quarter starts. -/
theorem part5 (c : Dev nD) (l : List (Fin 3 × Fin 4)) (v2 : BitVec 32) (y : FVec F S1x256x512 .bf16) (hy : shapeCast S256x512 y shapeCasts_S1x256x512_S256x512 = ybv m c (peer c 1) 0) {Q : PUnit → sProp 𝕄} :
    iprop(records m K ∗ anyW c (ybW 1 0) ∗ sendTok c 1 0 ∗ anyW (peer c 1) (rbW (rev 1) 0) ∗ xFull m c 0 0 ∗ Owes c (Ow c (((1, 0) : Fin 3 × Fin 4)::l)))
      ⊢ iprop((∀ r : PUnit, iprop(cred (tallyAt (sndCell c 1 0) () N) ∗ xFly m c 0 2 ∗ Owes c (Ow c l)) -∗ Q r)
        -∗ WP c (k0_part5 (F := F) xM h0 wM h1 oM h2 xsM h3 xbM h4 wsM h5 ybM h6 rbM h7 cc0_scratch5 cc0_scratch6 cc0_scratch7 cc0_scratch8 c v2 y) Q) := by
  rw [k0_part5_eq_skeleton]; unfold k0_part5_skel
  simp only [semSignalWord, semWaitWord, Prog.lift, Prog.bind_op, Prog.bind_ret, Prog.pure_eq_ret, wp_deviceId]
  iintro ⟨#HR, Y10, T10, D10, X0, HO⟩ Hk
  iapply (yb_put c 1 0 (ybv m c (peer c 1) 0) (hy)) $$ Y10; iintro Y10
  iapply (send m K c _ 1 0 (dev4_eq c) _) $$ [T10 Y10 D10 HO]
  · isplitr; · iexact HR
    isplitl [T10]; · iexact T10
    isplitl [Y10]; · iexact Y10
    isplitl [D10] <;> iassumption
  iintro ⟨C10, HO⟩
  ihave X0 := (xFull_idle m c 0 0) $$ X0
  iapply (x_start m c 0 2) $$ X0; iintro X0
  iapply (finish c _)
  iapply Hk
  isplitl [C10]; · iexact C10
  isplitl [X0] <;> iassumption

end

end Cert.KernelIdeal.Hand

end
-- ==== Proof.KernelIdeal.PartsB.lean ====
/-
The blocks for the device two places on.
-/
module

public import proofs.«01_k».proof.Proof.KernelIdeal.Values

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

section
variable (h0 : xM.IsWhole) (h1 : wM.IsWhole) (h2 : oM.IsWhole) (h3 : xsM.IsWhole) (h4 : xbM.IsWhole) (h5 : wsM.IsWhole) (h6 : ybM.IsWhole) (h7 : rbM.IsWhole)

/-- The second quarter is narrowed and its block stored. -/
theorem part6 (c : Dev nD) (l : List (Fin 3 × Fin 4)) (v2 : BitVec 32) (w : FVec F S4096x512 .bf16) (hw : w = wbv m c (peer c 1)) {Q : PUnit → sProp 𝕄} :
    iprop(levAts L lv ∗ xFly m c 1 1 ∗ XB m c 1 ∗ anyW c (ybW 1 1) ∗ Owes c (Ow c l))
      ⊢ iprop((∀ r : PUnit, iprop(xFull m c 1 1 ∗ XB m c 2 ∗ ownsW c (ybW 1 1) (ybv m c (peer c 1) 1) ∗ Owes c (Ow c l)) -∗ Q r)
        -∗ WP c (k0_part6 (F := F) xM h0 wM h1 oM h2 xsM h3 xbM h4 wsM h5 ybM h6 rbM h7 cc0_scratch5 cc0_scratch6 cc0_scratch7 cc0_scratch8 v2 w) Q) := by
  rw [k0_part6_eq_skeleton]; unfold k0_part6_skel
  simp only [semSignalWord, semWaitWord, Prog.lift, Prog.bind_op, Prog.bind_ret, Prog.pure_eq_ret, wp_deviceId]
  iintro ⟨#Lv, X1, XB, Y11, HO⟩ Hk
  iapply (x_wait m c 1 1 ((above_Ow c _).mono (by decide))) $$ [X1 HO]
  · isplitr; · iexact Lv
    isplitl [X1] <;> iassumption
  iintro ⟨X1, HO⟩
  iapply (x_load m c 1 1) $$ X1; iintro %x %hx X1
  iapply (xb_load m c 1 1) $$ XB; iintro %_z %h_z XB
  iapply (xb_store m c 1 (n := 1) rfl (narrow_x_store m hx)) $$ XB; iintro XB
  iapply (yb_load c 1 1) $$ Y11; iintro %_ Y11
  iapply (yb_put c 1 1 (ybv m c (peer c 1) 1) (store_of m (narrow_x m hx) hw)) $$ Y11; iintro Y11
  iapply (finish c _)
  iapply Hk
  isplitl [X1]; · iexact X1
  isplitl [XB]; · iexact XB
  isplitl [Y11] <;> iassumption

/-- The second block is sent; the third quarter is narrowed and its block stored. -/
theorem part7 (c : Dev nD) (l : List (Fin 3 × Fin 4)) (w : FVec F S4096x512 .bf16) (hw : w = wbv m c (peer c 1)) {Q : (BitVec 32) → sProp 𝕄} :
    iprop(records m K ∗ levAts L lv ∗ sendTok c 1 1 ∗ ownsW c (ybW 1 1) (ybv m c (peer c 1) 1) ∗ anyW (peer c 1) (rbW (rev 1) 1) ∗ xFull m c 1 1 ∗ xFly m c 0 2 ∗ XB m c 2 ∗ anyW c (ybW 1 2) ∗ Owes c (Ow c (((1, 1) : Fin 3 × Fin 4)::l)))
      ⊢ iprop((∀ r : (BitVec 32), iprop(cred (tallyAt (sndCell c 1 1) () N) ∗ xFly m c 1 3 ∗ xFull m c 0 2 ∗ XB m c 3 ∗ ownsW c (ybW 1 2) (ybv m c (peer c 1) 2) ∗ Owes c (Ow c l)) -∗ Q r)
        -∗ WP c (k0_part7 (F := F) xM h0 wM h1 oM h2 xsM h3 xbM h4 wsM h5 ybM h6 rbM h7 cc0_scratch5 cc0_scratch6 cc0_scratch7 cc0_scratch8 c w) Q) := by
  rw [k0_part7_eq_skeleton]; unfold k0_part7_skel
  simp only [semSignalWord, semWaitWord, Prog.lift, Prog.bind_op, Prog.bind_ret, Prog.pure_eq_ret, wp_deviceId]
  iintro ⟨#HR, #Lv, T11, Y11, D11, X1, X0, XB, Y12, HO⟩ Hk
  iapply (send m K c _ 1 1 (dev5_eq c) _) $$ [T11 Y11 D11 HO]
  · isplitr; · iexact HR
    isplitl [T11]; · iexact T11
    isplitl [Y11]; · iexact Y11
    isplitl [D11] <;> iassumption
  iintro ⟨C11, HO⟩
  ihave X1 := (xFull_idle m c 1 1) $$ X1
  iapply (x_start m c 1 3) $$ X1; iintro X1
  iapply (x_wait m c 0 2 ((above_Ow c _).mono (by decide))) $$ [X0 HO]
  · isplitr; · iexact Lv
    isplitl [X0] <;> iassumption
  iintro ⟨X0, HO⟩
  iapply (x_load m c 0 2) $$ X0; iintro %x %hx X0
  iapply (xb_load m c 2 2) $$ XB; iintro %_z %h_z XB
  iapply (xb_store m c 2 (n := 2) rfl (narrow_x_store m hx)) $$ XB; iintro XB
  iapply (yb_load c 1 2) $$ Y12; iintro %_ Y12
  iapply (yb_put c 1 2 (ybv m c (peer c 1) 2) (store_of m (narrow_x m hx) hw)) $$ Y12; iintro Y12
  iapply (finish c _)
  iapply Hk
  isplitl [C11]; · iexact C11
  isplitl [X1]; · iexact X1
  isplitl [X0]; · iexact X0
  isplitl [XB]; · iexact XB
  isplitl [Y12] <;> iassumption

/-- The third block is sent; the fourth quarter is loaded. -/
theorem part8 (c : Dev nD) (l : List (Fin 3 × Fin 4)) (v2 z : BitVec 32) {Q : FVec F S256x4096 .bf16 → sProp 𝕄} :
    iprop(records m K ∗ levAts L lv ∗ sendTok c 1 2 ∗ ownsW c (ybW 1 2) (ybv m c (peer c 1) 2) ∗ anyW (peer c 1) (rbW (rev 1) 2) ∗ xFly m c 1 3 ∗ Owes c (Ow c (((1, 2) : Fin 3 × Fin 4)::l)))
      ⊢ iprop((∀ r : FVec F S256x4096 .bf16, ⌜r = xbv m c 3⌝ -∗ iprop(cred (tallyAt (sndCell c 1 2) () N) ∗ xFull m c 1 3 ∗ Owes c (Ow c l)) -∗ Q r)
        -∗ WP c (k0_part8 (F := F) xM h0 wM h1 oM h2 xsM h3 xbM h4 wsM h5 ybM h6 rbM h7 cc0_scratch5 cc0_scratch6 cc0_scratch7 cc0_scratch8 c v2 z) Q) := by
  rw [k0_part8_eq_skeleton]; unfold k0_part8_skel
  simp only [semSignalWord, semWaitWord, Prog.lift, Prog.bind_op, Prog.bind_ret, Prog.pure_eq_ret, wp_deviceId]
  iintro ⟨#HR, #Lv, T12, Y12, D12, X1, HO⟩ Hk
  iapply (send m K c _ 1 2 (dev6_eq c) _) $$ [T12 Y12 D12 HO]
  · isplitr; · iexact HR
    isplitl [T12]; · iexact T12
    isplitl [Y12]; · iexact Y12
    isplitl [D12] <;> iassumption
  iintro ⟨C12, HO⟩
  iapply (x_wait m c 1 3 ((above_Ow c _).mono (by decide))) $$ [X1 HO]
  · isplitr; · iexact Lv
    isplitl [X1] <;> iassumption
  iintro ⟨X1, HO⟩
  iapply (x_load m c 1 3) $$ X1; iintro %x %hx X1
  iapply (finish c _)
  iapply Hk $$ []
  · ipureintro; exact narrow_x m hx
  isplitl [C12]; · iexact C12
  isplitl [X1] <;> iassumption

/-- The fourth quarter is kept; its block is stored and sent. -/
theorem part9 (c : Dev nD) (l : List (Fin 3 × Fin 4)) (v2 : BitVec 32) (w : FVec F S4096x512 .bf16) (x : FVec F S256x4096 .bf16) (hw : w = wbv m c (peer c 1)) (hx : x = xbv m c 3) {Q : (Σ' (v273 : BitVec 32), BitVec 32) → sProp 𝕄} :
    iprop(records m K ∗ XB m c 3 ∗ anyW c (ybW 1 3) ∗ sendTok c 1 3 ∗ anyW (peer c 1) (rbW (rev 1) 3) ∗ Owes c (Ow c (((1, 3) : Fin 3 × Fin 4)::l)))
      ⊢ iprop((∀ r : (Σ' (v273 : BitVec 32), BitVec 32), iprop(XB m c 4 ∗ cred (tallyAt (sndCell c 1 3) () N) ∗ Owes c (Ow c l)) -∗ Q r)
        -∗ WP c (k0_part9 (F := F) xM h0 wM h1 oM h2 xsM h3 xbM h4 wsM h5 ybM h6 rbM h7 cc0_scratch5 cc0_scratch6 cc0_scratch7 cc0_scratch8 c v2 w x) Q) := by
  rw [k0_part9_eq_skeleton]; unfold k0_part9_skel
  simp only [semSignalWord, semWaitWord, Prog.lift, Prog.bind_op, Prog.bind_ret, Prog.pure_eq_ret, wp_deviceId]
  iintro ⟨#HR, XB, Y13, T13, D13, HO⟩ Hk
  iapply (xb_load m c 3 3) $$ XB; iintro %_z %h_z XB
  iapply (xb_store m c 3 (n := 3) rfl (keep_x m hx)) $$ XB; iintro XB
  iapply (yb_load c 1 3) $$ Y13; iintro %_ Y13
  iapply (yb_put c 1 3 (ybv m c (peer c 1) 3) (store_of m hx hw)) $$ Y13; iintro Y13
  iapply (send m K c _ 1 3 (dev7_eq c) _) $$ [T13 Y13 D13 HO]
  · isplitr; · iexact HR
    isplitl [T13]; · iexact T13
    isplitl [Y13]; · iexact Y13
    isplitl [D13] <;> iassumption
  iintro ⟨C13, HO⟩
  iapply (finish c _)
  iapply Hk
  isplitl [XB]; · iexact XB
  isplitl [C13] <;> iassumption

/-- The columns for the device three places on start; those for the next device are in. -/
theorem part10 (c : Dev nD) (l : List (Fin 3 × Fin 4)) (v2 z z' : BitVec 32) {Q : PUnit → sProp 𝕄} :
    iprop(levAts L lv ∗ wFull m c 0 (peer c 1) ∗ wFly m c 1 (peer c 0) ∗ Owes c (Ow c l))
      ⊢ iprop((∀ r : PUnit, iprop(wFly m c 0 (peer c 2) ∗ wFull m c 1 (peer c 0) ∗ Owes c (Ow c l)) -∗ Q r)
        -∗ WP c (k0_part10 (F := F) xM h0 wM h1 oM h2 xsM h3 xbM h4 wsM h5 ybM h6 rbM h7 cc0_scratch5 cc0_scratch6 cc0_scratch7 cc0_scratch8 c v2 z z') Q) := by
  rw [k0_part10_eq_skeleton]; unfold k0_part10_skel
  simp only [semSignalWord, semWaitWord, Prog.lift, Prog.bind_op, Prog.bind_ret, Prog.pure_eq_ret, wp_deviceId]
  iintro ⟨#Lv, W0, W1, HO⟩ Hk
  ihave W0 := (wFull_idle m c 0 (peer c 1)) $$ W0
  iapply (w_start m c 0 (peer c 2) (off1_eq3 c)) $$ W0; iintro W0
  iapply (w_wait m c 1 (peer c 0) ((above_Ow c _).mono (by decide))) $$ [W1 HO]
  · isplitr; · iexact Lv
    isplitl [W1] <;> iassumption
  iintro ⟨W1, HO⟩
  iapply (finish c _)
  iapply Hk
  isplitl [W0]; · iexact W0
  isplitl [W1] <;> iassumption

end

end Cert.KernelIdeal.Hand

end
-- ==== Proof.KernelIdeal.PartsC.lean ====
/-
The blocks for the next device.
-/
module

public import proofs.«01_k».proof.Proof.KernelIdeal.Values

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

section
variable (h0 : xM.IsWhole) (h1 : wM.IsWhole) (h2 : oM.IsWhole) (h3 : xsM.IsWhole) (h4 : xbM.IsWhole) (h5 : wsM.IsWhole) (h6 : ybM.IsWhole) (h7 : rbM.IsWhole)

/-- The first block for the next device is stored. -/
theorem part11 (c : Dev nD) (v2 : BitVec 32) {Q : FVec F S4096x512 .bf16 → sProp 𝕄} :
    iprop(wFull m c 1 (peer c 0) ∗ XB m c 4 ∗ anyW c (ybW 0 0))
      ⊢ iprop((∀ r : FVec F S4096x512 .bf16, ⌜r = wbv m c (peer c 0)⌝ -∗ iprop(wFull m c 1 (peer c 0) ∗ XB m c 4 ∗ ownsW c (ybW 0 0) (ybv m c (peer c 0) 0)) -∗ Q r)
        -∗ WP c (k0_part11 (F := F) xM h0 wM h1 oM h2 xsM h3 xbM h4 wsM h5 ybM h6 rbM h7 cc0_scratch5 cc0_scratch6 cc0_scratch7 cc0_scratch8 v2) Q) := by
  rw [k0_part11_eq_skeleton]; unfold k0_part11_skel
  simp only [semSignalWord, semWaitWord, Prog.lift, Prog.bind_op, Prog.bind_ret, Prog.pure_eq_ret, wp_deviceId]
  iintro ⟨W1, XB, Y00⟩ Hk
  iapply (w_load m c 1 (peer c 0)) $$ W1; iintro %v %hv W1
  iapply (xb_load m c 4 0) $$ XB; iintro %x %hx XB
  iapply (yb_load c 0 0) $$ Y00; iintro %_ Y00
  iapply (yb_put c 0 0 (ybv m c (peer c 0) 0) (store_of m (hx (by decide)) (narrow_w m hv))) $$ Y00; iintro Y00
  iapply (finish c _)
  iapply Hk $$ []
  · ipureintro; exact narrow_w m hv
  isplitl [W1]; · iexact W1
  isplitl [XB] <;> iassumption

/-- It is sent, and the second is stored and sent. -/
theorem part12 (c : Dev nD) (l : List (Fin 3 × Fin 4)) (v2 : BitVec 32) (w : FVec F S4096x512 .bf16) (hw : w = wbv m c (peer c 0)) {Q : FVec F S256x4096 .bf16 → sProp 𝕄} :
    iprop(records m K ∗ sendTok c 0 0 ∗ ownsW c (ybW 0 0) (ybv m c (peer c 0) 0) ∗ anyW (peer c 0) (rbW (rev 0) 0) ∗ XB m c 4 ∗ anyW c (ybW 0 1) ∗ sendTok c 0 1 ∗ anyW (peer c 0) (rbW (rev 0) 1) ∗ Owes c (Ow c (((0, 0) : Fin 3 × Fin 4)::((0, 1) : Fin 3 × Fin 4)::l)))
      ⊢ iprop((∀ r : FVec F S256x4096 .bf16, ⌜r = xbv m c 2⌝ -∗ iprop(cred (tallyAt (sndCell c 0 0) () N) ∗ XB m c 4 ∗ cred (tallyAt (sndCell c 0 1) () N) ∗ Owes c (Ow c l)) -∗ Q r)
        -∗ WP c (k0_part12 (F := F) xM h0 wM h1 oM h2 xsM h3 xbM h4 wsM h5 ybM h6 rbM h7 cc0_scratch5 cc0_scratch6 cc0_scratch7 cc0_scratch8 c v2 w) Q) := by
  rw [k0_part12_eq_skeleton]; unfold k0_part12_skel
  simp only [semSignalWord, semWaitWord, Prog.lift, Prog.bind_op, Prog.bind_ret, Prog.pure_eq_ret, wp_deviceId]
  iintro ⟨#HR, T00, Y00, D00, XB, Y01, T01, D01, HO⟩ Hk
  iapply (send m K c _ 0 0 (dev8_eq c) _) $$ [T00 Y00 D00 HO]
  · isplitr; · iexact HR
    isplitl [T00]; · iexact T00
    isplitl [Y00]; · iexact Y00
    isplitl [D00] <;> iassumption
  iintro ⟨C00, HO⟩
  iapply (xb_load m c 4 1) $$ XB; iintro %x %hx XB
  iapply (yb_load c 0 1) $$ Y01; iintro %_ Y01
  iapply (yb_put c 0 1 (ybv m c (peer c 0) 1) (store_of m (hx (by decide)) hw)) $$ Y01; iintro Y01
  iapply (send m K c _ 0 1 (dev9_eq c) _) $$ [T01 Y01 D01 HO]
  · isplitr; · iexact HR
    isplitl [T01]; · iexact T01
    isplitl [Y01]; · iexact Y01
    isplitl [D01] <;> iassumption
  iintro ⟨C01, HO⟩
  iapply (xb_load m c 4 2) $$ XB; iintro %x' %hx' XB
  iapply (finish c _)
  iapply Hk $$ []
  · ipureintro; exact hx' (by decide)
  isplitl [C00]; · iexact C00
  isplitl [XB]; · iexact XB
  isplitl [C01] <;> iassumption

/-- The third is stored and sent, and the fourth computed. -/
theorem part13 (c : Dev nD) (l : List (Fin 3 × Fin 4)) (v2 : BitVec 32) (w : FVec F S4096x512 .bf16) (x : FVec F S256x4096 .bf16) (hw : w = wbv m c (peer c 0)) (hx : x = xbv m c 2) {Q : FVec F S256x512 .f32 → sProp 𝕄} :
    iprop(records m K ∗ anyW c (ybW 0 2) ∗ sendTok c 0 2 ∗ anyW (peer c 0) (rbW (rev 0) 2) ∗ XB m c 4 ∗ Owes c (Ow c (((0, 2) : Fin 3 × Fin 4)::l)))
      ⊢ iprop((∀ r : FVec F S256x512 .f32, ⌜r = yv m c (peer c 0) 3⌝ -∗ iprop(cred (tallyAt (sndCell c 0 2) () N) ∗ XB m c 4 ∗ Owes c (Ow c l)) -∗ Q r)
        -∗ WP c (k0_part13 (F := F) xM h0 wM h1 oM h2 xsM h3 xbM h4 wsM h5 ybM h6 rbM h7 cc0_scratch5 cc0_scratch6 cc0_scratch7 cc0_scratch8 c v2 w x) Q) := by
  rw [k0_part13_eq_skeleton]; unfold k0_part13_skel
  simp only [semSignalWord, semWaitWord, Prog.lift, Prog.bind_op, Prog.bind_ret, Prog.pure_eq_ret, wp_deviceId]
  iintro ⟨#HR, Y02, T02, D02, XB, HO⟩ Hk
  iapply (yb_load c 0 2) $$ Y02; iintro %_ Y02
  iapply (yb_put c 0 2 (ybv m c (peer c 0) 2) (store_of m hx hw)) $$ Y02; iintro Y02
  iapply (send m K c _ 0 2 (dev10_eq c) _) $$ [T02 Y02 D02 HO]
  · isplitr; · iexact HR
    isplitl [T02]; · iexact T02
    isplitl [Y02]; · iexact Y02
    isplitl [D02] <;> iassumption
  iintro ⟨C02, HO⟩
  iapply (xb_load m c 4 3) $$ XB; iintro %x' %hx' XB
  iapply (finish c _)
  iapply Hk $$ []
  · ipureintro; exact act_of m (hx' (by decide)) hw
  isplitl [C02]; · iexact C02
  isplitl [XB] <;> iassumption

/-- The fourth is stored and sent. -/
theorem part14 (c : Dev nD) (l : List (Fin 3 × Fin 4)) (v2 : BitVec 32) (y : FVec F S256x512 .f32) (hy : y = yv m c (peer c 0) 3) {Q : (Σ' (v428 : BitVec 32) (v429 : BitVec 32) (v430 : BitVec 1), BitVec 32) → sProp 𝕄} :
    iprop(records m K ∗ anyW c (ybW 0 3) ∗ sendTok c 0 3 ∗ anyW (peer c 0) (rbW (rev 0) 3) ∗ Owes c (Ow c (((0, 3) : Fin 3 × Fin 4)::l)))
      ⊢ iprop((∀ r : (Σ' (v428 : BitVec 32) (v429 : BitVec 32) (v430 : BitVec 1), BitVec 32), iprop(cred (tallyAt (sndCell c 0 3) () N) ∗ Owes c (Ow c l)) -∗ Q r)
        -∗ WP c (k0_part14 (F := F) xM h0 wM h1 oM h2 xsM h3 xbM h4 wsM h5 ybM h6 rbM h7 cc0_scratch5 cc0_scratch6 cc0_scratch7 cc0_scratch8 c v2 y) Q) := by
  rw [k0_part14_eq_skeleton]; unfold k0_part14_skel
  simp only [semSignalWord, semWaitWord, Prog.lift, Prog.bind_op, Prog.bind_ret, Prog.pure_eq_ret, wp_deviceId]
  iintro ⟨#HR, Y03, T03, D03, HO⟩ Hk
  iapply (yb_load c 0 3) $$ Y03; iintro %_ Y03
  iapply (yb_put c 0 3 (ybv m c (peer c 0) 3) (narrow_act m hy)) $$ Y03; iintro Y03
  iapply (send m K c _ 0 3 (dev11_eq c) _) $$ [T03 Y03 D03 HO]
  · isplitr; · iexact HR
    isplitl [T03]; · iexact T03
    isplitl [Y03]; · iexact Y03
    isplitl [D03] <;> iassumption
  iintro ⟨C03, HO⟩
  iapply (finish c _)
  iapply Hk
  isplitl [C03] <;> iassumption

/-- The device's own columns start; those for the device three places on are in. -/
theorem part15 (c : Dev nD) (l : List (Fin 3 × Fin 4)) (v2 z1 z2 : BitVec 32) (z3 : BitVec 1) (z4 : BitVec 32) {Q : (Σ' (v462 : FVec F S4096x512 .bf16), Vec F S256x4096 .bf16) → sProp 𝕄} :
    iprop(levAts L lv ∗ wFull m c 1 (peer c 0) ∗ wFly m c 0 (peer c 2) ∗ XB m c 4 ∗ Owes c (Ow c l))
      ⊢ iprop((∀ r : (Σ' (v462 : FVec F S4096x512 .bf16), Vec F S256x4096 .bf16), ⌜r.1 = wbv m c (peer c 2) ∧ r.2 = xbv m c 0⌝ -∗ iprop(wFly m c 1 c ∗ wFull m c 0 (peer c 2) ∗ XB m c 4 ∗ Owes c (Ow c l)) -∗ Q r)
        -∗ WP c (k0_part15 (F := F) xM h0 wM h1 oM h2 xsM h3 xbM h4 wsM h5 ybM h6 rbM h7 cc0_scratch5 cc0_scratch6 cc0_scratch7 cc0_scratch8 c v2 z1 z2 z3 z4) Q) := by
  rw [k0_part15_eq_skeleton]; unfold k0_part15_skel
  simp only [semSignalWord, semWaitWord, Prog.lift, Prog.bind_op, Prog.bind_ret, Prog.pure_eq_ret, wp_deviceId]
  iintro ⟨#Lv, W1, W0, XB, HO⟩ Hk
  ihave W1 := (wFull_idle m c 1 (peer c 0)) $$ W1
  iapply (w_start m c 1 c (off1_eq4 c)) $$ W1; iintro W1
  iapply (w_wait m c 0 (peer c 2) ((above_Ow c _).mono (by decide))) $$ [W0 HO]
  · isplitr; · iexact Lv
    isplitl [W0] <;> iassumption
  iintro ⟨W0, HO⟩
  iapply (w_load m c 0 (peer c 2)) $$ W0; iintro %v %hv W0
  iapply (xb_load m c 4 0) $$ XB; iintro %x %hx XB
  iapply (finish c _)
  iapply Hk $$ []
  · ipureintro; exact ⟨narrow_w m hv, hx (by decide)⟩
  isplitl [W1]; · iexact W1
  isplitl [W0]; · iexact W0
  isplitl [XB] <;> iassumption

end

end Cert.KernelIdeal.Hand

end
-- ==== Proof.KernelIdeal.PartsD.lean ====
/-
The blocks for the device three places on, and the device's own.
-/
module

public import proofs.«01_k».proof.Proof.KernelIdeal.Values

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

section
variable (h0 : xM.IsWhole) (h1 : wM.IsWhole) (h2 : oM.IsWhole) (h3 : xsM.IsWhole) (h4 : xbM.IsWhole) (h5 : wsM.IsWhole) (h6 : ybM.IsWhole) (h7 : rbM.IsWhole)

/-- The first block for it is stored and sent, and the second computed. -/
theorem part16 (c : Dev nD) (l : List (Fin 3 × Fin 4)) (v2 : BitVec 32) (w : FVec F S4096x512 .bf16) (x : FVec F S256x4096 .bf16) (hw : w = wbv m c (peer c 2)) (hx : x = xbv m c 0) {Q : FVec F S256x512 .f32 → sProp 𝕄} :
    iprop(records m K ∗ anyW c (ybW 2 0) ∗ sendTok c 2 0 ∗ anyW (peer c 2) (rbW (rev 2) 0) ∗ XB m c 4 ∗ Owes c (Ow c (((2, 0) : Fin 3 × Fin 4)::l)))
      ⊢ iprop((∀ r : FVec F S256x512 .f32, ⌜r = yv m c (peer c 2) 1⌝ -∗ iprop(cred (tallyAt (sndCell c 2 0) () N) ∗ XB m c 4 ∗ Owes c (Ow c l)) -∗ Q r)
        -∗ WP c (k0_part16 (F := F) xM h0 wM h1 oM h2 xsM h3 xbM h4 wsM h5 ybM h6 rbM h7 cc0_scratch5 cc0_scratch6 cc0_scratch7 cc0_scratch8 c v2 w x) Q) := by
  rw [k0_part16_eq_skeleton]; unfold k0_part16_skel
  simp only [semSignalWord, semWaitWord, Prog.lift, Prog.bind_op, Prog.bind_ret, Prog.pure_eq_ret, wp_deviceId]
  iintro ⟨#HR, Y20, T20, D20, XB, HO⟩ Hk
  iapply (yb_load c 2 0) $$ Y20; iintro %_ Y20
  iapply (yb_put c 2 0 (ybv m c (peer c 2) 0) (store_of m hx hw)) $$ Y20; iintro Y20
  iapply (send m K c _ 2 0 (dev12_eq c) _) $$ [T20 Y20 D20 HO]
  · isplitr; · iexact HR
    isplitl [T20]; · iexact T20
    isplitl [Y20]; · iexact Y20
    isplitl [D20] <;> iassumption
  iintro ⟨C20, HO⟩
  iapply (xb_load m c 4 1) $$ XB; iintro %x' %hx' XB
  iapply (finish c _)
  iapply Hk $$ []
  · ipureintro; exact act_of m (hx' (by decide)) hw
  isplitl [C20]; · iexact C20
  isplitl [XB] <;> iassumption

/-- The second is stored and sent, and the third computed. -/
theorem part17 (c : Dev nD) (l : List (Fin 3 × Fin 4)) (v2 : BitVec 32) (w : FVec F S4096x512 .bf16) (y : FVec F S256x512 .f32) (hw : w = wbv m c (peer c 2)) (hy : y = yv m c (peer c 2) 1) {Q : FVec F S256x512 .bf16 → sProp 𝕄} :
    iprop(records m K ∗ anyW c (ybW 2 1) ∗ sendTok c 2 1 ∗ anyW (peer c 2) (rbW (rev 2) 1) ∗ XB m c 4 ∗ Owes c (Ow c (((2, 1) : Fin 3 × Fin 4)::l)))
      ⊢ iprop((∀ r : FVec F S256x512 .bf16, ⌜r = ybv m c (peer c 2) 2⌝ -∗ iprop(cred (tallyAt (sndCell c 2 1) () N) ∗ XB m c 4 ∗ Owes c (Ow c l)) -∗ Q r)
        -∗ WP c (k0_part17 (F := F) xM h0 wM h1 oM h2 xsM h3 xbM h4 wsM h5 ybM h6 rbM h7 cc0_scratch5 cc0_scratch6 cc0_scratch7 cc0_scratch8 c v2 w y) Q) := by
  rw [k0_part17_eq_skeleton]; unfold k0_part17_skel
  simp only [semSignalWord, semWaitWord, Prog.lift, Prog.bind_op, Prog.bind_ret, Prog.pure_eq_ret, wp_deviceId]
  iintro ⟨#HR, Y21, T21, D21, XB, HO⟩ Hk
  iapply (yb_load c 2 1) $$ Y21; iintro %_ Y21
  iapply (yb_put c 2 1 (ybv m c (peer c 2) 1) (narrow_act m hy)) $$ Y21; iintro Y21
  iapply (send m K c _ 2 1 (dev13_eq c) _) $$ [T21 Y21 D21 HO]
  · isplitr; · iexact HR
    isplitl [T21]; · iexact T21
    isplitl [Y21]; · iexact Y21
    isplitl [D21] <;> iassumption
  iintro ⟨C21, HO⟩
  iapply (xb_load m c 4 2) $$ XB; iintro %x' %hx' XB
  iapply (finish c _)
  iapply Hk $$ []
  · ipureintro; exact congrArg (fun y => truncf .bf16 y bitsLt_bf16_f32) (act_of m (hx' (by decide)) hw)
  isplitl [C21]; · iexact C21
  isplitl [XB] <;> iassumption

/-- The third is stored and sent, and the fourth stored. -/
theorem part18 (c : Dev nD) (l : List (Fin 3 × Fin 4)) (v2 : BitVec 32) (w : FVec F S4096x512 .bf16) (y : FVec F S256x512 .bf16) (hw : w = wbv m c (peer c 2)) (hy : y = ybv m c (peer c 2) 2) {Q : PUnit → sProp 𝕄} :
    iprop(records m K ∗ anyW c (ybW 2 2) ∗ sendTok c 2 2 ∗ anyW (peer c 2) (rbW (rev 2) 2) ∗ XB m c 4 ∗ anyW c (ybW 2 3) ∗ Owes c (Ow c (((2, 2) : Fin 3 × Fin 4)::l)))
      ⊢ iprop((∀ r : PUnit, iprop(cred (tallyAt (sndCell c 2 2) () N) ∗ XB m c 4 ∗ ownsW c (ybW 2 3) (ybv m c (peer c 2) 3) ∗ Owes c (Ow c l)) -∗ Q r)
        -∗ WP c (k0_part18 (F := F) xM h0 wM h1 oM h2 xsM h3 xbM h4 wsM h5 ybM h6 rbM h7 cc0_scratch5 cc0_scratch6 cc0_scratch7 cc0_scratch8 c v2 w y) Q) := by
  rw [k0_part18_eq_skeleton]; unfold k0_part18_skel
  simp only [semSignalWord, semWaitWord, Prog.lift, Prog.bind_op, Prog.bind_ret, Prog.pure_eq_ret, wp_deviceId]
  iintro ⟨#HR, Y22, T22, D22, XB, Y23, HO⟩ Hk
  iapply (yb_load c 2 2) $$ Y22; iintro %_ Y22
  iapply (yb_put c 2 2 (ybv m c (peer c 2) 2) (block_of m hy)) $$ Y22; iintro Y22
  iapply (send m K c _ 2 2 (dev14_eq c) _) $$ [T22 Y22 D22 HO]
  · isplitr; · iexact HR
    isplitl [T22]; · iexact T22
    isplitl [Y22]; · iexact Y22
    isplitl [D22] <;> iassumption
  iintro ⟨C22, HO⟩
  iapply (xb_load m c 4 3) $$ XB; iintro %x' %hx' XB
  iapply (yb_load c 2 3) $$ Y23; iintro %_ Y23
  iapply (yb_put c 2 3 (ybv m c (peer c 2) 3) (store_of m (hx' (by decide)) hw)) $$ Y23; iintro Y23
  iapply (finish c _)
  iapply Hk
  isplitl [C22]; · iexact C22
  isplitl [XB]; · iexact XB
  isplitl [Y23] <;> iassumption

/-- The fourth is sent: nothing is owed any more. -/
theorem part19 (c : Dev nD) (l : List (Fin 3 × Fin 4)) (v2 : BitVec 32) {Q : (Σ' (v589 : BitVec 32), BitVec 32) → sProp 𝕄} :
    iprop(records m K ∗ sendTok c 2 3 ∗ ownsW c (ybW 2 3) (ybv m c (peer c 2) 3) ∗ anyW (peer c 2) (rbW (rev 2) 3) ∗ Owes c (Ow c (((2, 3) : Fin 3 × Fin 4)::l)))
      ⊢ iprop((∀ r : (Σ' (v589 : BitVec 32), BitVec 32), iprop(cred (tallyAt (sndCell c 2 3) () N) ∗ Owes c (Ow c l)) -∗ Q r)
        -∗ WP c (k0_part19 (F := F) xM h0 wM h1 oM h2 xsM h3 xbM h4 wsM h5 ybM h6 rbM h7 cc0_scratch5 cc0_scratch6 cc0_scratch7 cc0_scratch8 c v2) Q) := by
  rw [k0_part19_eq_skeleton]; unfold k0_part19_skel
  simp only [semSignalWord, semWaitWord, Prog.lift, Prog.bind_op, Prog.bind_ret, Prog.pure_eq_ret, wp_deviceId]
  iintro ⟨#HR, T23, Y23, D23, HO⟩ Hk
  iapply (send m K c _ 2 3 (dev15_eq c) _) $$ [T23 Y23 D23 HO]
  · isplitr; · iexact HR
    isplitl [T23]; · iexact T23
    isplitl [Y23]; · iexact Y23
    isplitl [D23] <;> iassumption
  iintro ⟨C23, HO⟩
  iapply (finish c _)
  iapply Hk
  isplitl [C23] <;> iassumption

/-- The device's own first and second blocks go to the output, and the third is computed. -/
theorem part20 (c : Dev nD) (l : List (Fin 3 × Fin 4)) (T : Set ℕ) (v2 z z' : BitVec 32) {Q : (Σ' (v598 : FVec F S4096x512 .bf16), FVec F S256x512 .f32) → sProp 𝕄} :
    iprop(levAts L lv ∗ wFly m c 1 c ∗ XB m c 4 ∗ Out m c T ∗ Owes c (Ow c l))
      ⊢ iprop((∀ r : (Σ' (v598 : FVec F S4096x512 .bf16), FVec F S256x512 .f32), ⌜r.1 = wbv m c c ∧ r.2 = yv m c c 2⌝ -∗ iprop(wFull m c 1 c ∗ XB m c 4 ∗ Out m c (insert (4 * c.val + (1 : Fin 4).val) (insert (4 * c.val + (0 : Fin 4).val) T)) ∗ Owes c (Ow c l)) -∗ Q r)
        -∗ WP c (k0_part20 (F := F) xM h0 wM h1 oM h2 xsM h3 xbM h4 wsM h5 ybM h6 rbM h7 cc0_scratch5 cc0_scratch6 cc0_scratch7 cc0_scratch8 c v2 z z') Q) := by
  rw [k0_part20_eq_skeleton]; unfold k0_part20_skel
  simp only [semSignalWord, semWaitWord, Prog.lift, Prog.bind_op, Prog.bind_ret, Prog.pure_eq_ret, wp_deviceId]
  iintro ⟨#Lv, W1, XB, OUT, HO⟩ Hk
  iapply (w_wait m c 1 c ((above_Ow c _).mono (by decide))) $$ [W1 HO]
  · isplitr; · iexact Lv
    isplitl [W1] <;> iassumption
  iintro ⟨W1, HO⟩
  iapply (w_load m c 1 c) $$ W1; iintro %v %hv W1
  iapply (xb_load m c 4 0) $$ XB; iintro %x0 %hx0 XB
  iapply (out_load m c _) $$ OUT; iintro %_ OUT
  iapply (out_put_own m c 0 _ (off2_eq0 c) (act_of m (hx0 (by decide)) (narrow_w m hv))) $$ OUT; iintro OUT
  iapply (xb_load m c 4 1) $$ XB; iintro %x1 %hx1 XB
  iapply (out_load m c _) $$ OUT; iintro %_ OUT
  iapply (out_put_own m c 1 _ (off2_eq1 c) (act_of m (hx1 (by decide)) (narrow_w m hv))) $$ OUT; iintro OUT
  iapply (xb_load m c 4 2) $$ XB; iintro %x2 %hx2 XB
  iapply (finish c _)
  iapply Hk $$ []
  · ipureintro; exact ⟨narrow_w m hv, act_of m (hx2 (by decide)) (narrow_w m hv)⟩
  isplitl [W1]; · iexact W1
  isplitl [XB]; · iexact XB
  isplitl [OUT] <;> iassumption

end

end Cert.KernelIdeal.Hand

end
-- ==== Proof.KernelIdeal.PartsE.lean ====
/-
The slabs that arrive.
-/
module

public import proofs.«01_k».proof.Proof.KernelIdeal.Values

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

section
variable (h0 : xM.IsWhole) (h1 : wM.IsWhole) (h2 : oM.IsWhole) (h3 : xsM.IsWhole) (h4 : xbM.IsWhole) (h5 : wsM.IsWhole) (h6 : ybM.IsWhole) (h7 : rbM.IsWhole)

/-- The third and the fourth go to the output; two blocks arrive. -/
theorem part21 (c : Dev nD) (T : Set ℕ) (v2 : BitVec 32) (w : FVec F S4096x512 .bf16) (y : FVec F S256x512 .f32) (hw : w = wbv m c c) (hy : y = yv m c c 2) {Q : PUnit → sProp 𝕄} :
    iprop(records m K ∗ Out m c T ∗ XB m c 4 ∗ waitTok (rcvCell c 1 0) ∗ waitTok (rcvCell c 1 1) ∗ Owes c 0)
      ⊢ iprop((∀ r : PUnit, iprop(Out m c (insert (4 * c.val + (3 : Fin 4).val) (insert (4 * c.val + (2 : Fin 4).val) T)) ∗ XB m c 4 ∗ rcvPay m c 1 0 ∗ semVal (rcvCell c 1 0) 0 ∗ rcvPay m c 1 1 ∗ semVal (rcvCell c 1 1) 0 ∗ Owes c 0) -∗ Q r)
        -∗ WP c (k0_part21 (F := F) xM h0 wM h1 oM h2 xsM h3 xbM h4 wsM h5 ybM h6 rbM h7 cc0_scratch5 cc0_scratch6 cc0_scratch7 cc0_scratch8 c v2 w y) Q) := by
  rw [k0_part21_eq_skeleton]; unfold k0_part21_skel
  simp only [semSignalWord, semWaitWord, Prog.lift, Prog.bind_op, Prog.bind_ret, Prog.pure_eq_ret, wp_deviceId]
  iintro ⟨#HR, OUT, XB, Q10, Q11, HO⟩ Hk
  iapply (out_load m c _) $$ OUT; iintro %_ OUT
  iapply (out_put_own m c 2 _ (off2_eq2 c) (hy)) $$ OUT; iintro OUT
  iapply (xb_load m c 4 3) $$ XB; iintro %x %hx XB
  iapply (out_load m c _) $$ OUT; iintro %_ OUT
  iapply (out_put_own m c 3 _ (off2_eq3 c) (act_of m (hx (by decide)) hw)) $$ OUT; iintro OUT
  iapply (rcv_wait m K c 1 0) $$ [Q10 HO]
  · isplitr; · iexact HR
    isplitl [Q10] <;> iassumption
  iintro ⟨P10, V10, HO⟩
  iapply (rcv_wait m K c 1 1) $$ [Q11 HO]
  · isplitr; · iexact HR
    isplitl [Q11] <;> iassumption
  iintro ⟨P11, V11, HO⟩
  iapply (finish c _)
  iapply Hk
  isplitl [OUT]; · iexact OUT
  isplitl [XB]; · iexact XB
  isplitl [P10]; · iexact P10
  isplitl [V10]; · iexact V10
  isplitl [P11]; · iexact P11
  isplitl [V11] <;> iassumption

/-- The other two of that slab arrive. -/
theorem part22 (c : Dev nD) (v2 : BitVec 32) {Q : (BitVec 32) → sProp 𝕄} :
    iprop(records m K ∗ waitTok (rcvCell c 1 2) ∗ waitTok (rcvCell c 1 3) ∗ Owes c 0)
      ⊢ iprop((∀ r : (BitVec 32), iprop(rcvPay m c 1 2 ∗ semVal (rcvCell c 1 2) 0 ∗ rcvPay m c 1 3 ∗ semVal (rcvCell c 1 3) 0 ∗ Owes c 0) -∗ Q r)
        -∗ WP c (k0_part22 (F := F) xM h0 wM h1 oM h2 xsM h3 xbM h4 wsM h5 ybM h6 rbM h7 cc0_scratch5 cc0_scratch6 cc0_scratch7 cc0_scratch8 v2) Q) := by
  rw [k0_part22_eq_skeleton]; unfold k0_part22_skel
  simp only [semSignalWord, semWaitWord, Prog.lift, Prog.bind_op, Prog.bind_ret, Prog.pure_eq_ret, wp_deviceId]
  iintro ⟨#HR, Q12, Q13, HO⟩ Hk
  iapply (rcv_wait m K c 1 2) $$ [Q12 HO]
  · isplitr; · iexact HR
    isplitl [Q12] <;> iassumption
  iintro ⟨P12, V12, HO⟩
  iapply (rcv_wait m K c 1 3) $$ [Q13 HO]
  · isplitr; · iexact HR
    isplitl [Q13] <;> iassumption
  iintro ⟨P13, V13, HO⟩
  iapply (finish c _)
  iapply Hk
  isplitl [P12]; · iexact P12
  isplitl [V12]; · iexact V12
  isplitl [P13]; · iexact P13
  isplitl [V13] <;> iassumption

/-- That slab goes to the output; two blocks of the next one arrive. -/
theorem part23 (c : Dev nD) (T : Set ℕ) (v2 z : BitVec 32) {Q : PUnit → sProp 𝕄} :
    iprop(records m K ∗ rcvPay m c 1 0 ∗ rcvPay m c 1 1 ∗ rcvPay m c 1 2 ∗ rcvPay m c 1 3 ∗ Out m c T ∗ waitTok (rcvCell c 2 0) ∗ waitTok (rcvCell c 2 1) ∗ Owes c 0)
      ⊢ iprop((∀ r : PUnit, iprop(slabPts c 1 ∗ Out m c ({n | n / 4 = (peer c 1).val} ∪ T) ∗ rcvPay m c 2 0 ∗ semVal (rcvCell c 2 0) 0 ∗ rcvPay m c 2 1 ∗ semVal (rcvCell c 2 1) 0 ∗ Owes c 0) -∗ Q r)
        -∗ WP c (k0_part23 (F := F) xM h0 wM h1 oM h2 xsM h3 xbM h4 wsM h5 ybM h6 rbM h7 cc0_scratch5 cc0_scratch6 cc0_scratch7 cc0_scratch8 c v2 z) Q) := by
  rw [k0_part23_eq_skeleton]; unfold k0_part23_skel
  simp only [semSignalWord, semWaitWord, Prog.lift, Prog.bind_op, Prog.bind_ret, Prog.pure_eq_ret, wp_deviceId]
  iintro ⟨#HR, P10, P11, P12, P13, OUT, Q20, Q21, HO⟩ Hk
  iapply (rb_load m c 1) $$ [P10 P11 P12 P13]
  · unfold landed
    isplitl [P10]; · iexact P10
    isplitl [P11]; · iexact P11
    isplitl [P12] <;> iassumption
  iintro %v %hv S1
  iapply (out_load m c _) $$ OUT; iintro %_ OUT
  iapply (out_put_slab m c (peer c 1) (peer_ne c 1) _ (off3_eq2 c) (widen m hv)) $$ OUT; iintro OUT
  iapply (rcv_wait m K c 2 0) $$ [Q20 HO]
  · isplitr; · iexact HR
    isplitl [Q20] <;> iassumption
  iintro ⟨P20, V20, HO⟩
  iapply (rcv_wait m K c 2 1) $$ [Q21 HO]
  · isplitr; · iexact HR
    isplitl [Q21] <;> iassumption
  iintro ⟨P21, V21, HO⟩
  iapply (finish c _)
  iapply Hk
  isplitl [S1]; · iexact S1
  isplitl [OUT]; · iexact OUT
  isplitl [P20]; · iexact P20
  isplitl [V20]; · iexact V20
  isplitl [P21]; · iexact P21
  isplitl [V21] <;> iassumption

/-- The other two arrive, and the slab is loaded. -/
theorem part24 (c : Dev nD) (v2 : BitVec 32) {Q : (Σ' (v722 : BitVec 32), FVec F S1024x512 .f32) → sProp 𝕄} :
    iprop(records m K ∗ waitTok (rcvCell c 2 2) ∗ waitTok (rcvCell c 2 3) ∗ rcvPay m c 2 0 ∗ rcvPay m c 2 1 ∗ Owes c 0)
      ⊢ iprop((∀ r : (Σ' (v722 : BitVec 32), FVec F S1024x512 .f32), ⌜r.2 = extf .f32 (stack (ybv m (peer c 2) c)) bitsLt_bf16_f32⌝ -∗ iprop(semVal (rcvCell c 2 2) 0 ∗ semVal (rcvCell c 2 3) 0 ∗ slabPts c 2 ∗ Owes c 0) -∗ Q r)
        -∗ WP c (k0_part24 (F := F) xM h0 wM h1 oM h2 xsM h3 xbM h4 wsM h5 ybM h6 rbM h7 cc0_scratch5 cc0_scratch6 cc0_scratch7 cc0_scratch8 v2) Q) := by
  rw [k0_part24_eq_skeleton]; unfold k0_part24_skel
  simp only [semSignalWord, semWaitWord, Prog.lift, Prog.bind_op, Prog.bind_ret, Prog.pure_eq_ret, wp_deviceId]
  iintro ⟨#HR, Q22, Q23, P20, P21, HO⟩ Hk
  iapply (rcv_wait m K c 2 2) $$ [Q22 HO]
  · isplitr; · iexact HR
    isplitl [Q22] <;> iassumption
  iintro ⟨P22, V22, HO⟩
  iapply (rcv_wait m K c 2 3) $$ [Q23 HO]
  · isplitr; · iexact HR
    isplitl [Q23] <;> iassumption
  iintro ⟨P23, V23, HO⟩
  iapply (rb_load m c 2) $$ [P20 P21 P22 P23]
  · unfold landed
    isplitl [P20]; · iexact P20
    isplitl [P21]; · iexact P21
    isplitl [P22] <;> iassumption
  iintro %v %hv S2
  iapply (finish c _)
  iapply Hk $$ []
  · ipureintro; exact widen m hv
  isplitl [V22]; · iexact V22
  isplitl [V23]; · iexact V23
  isplitl [S2] <;> iassumption

/-- It goes to the output; two blocks of the last slab arrive. -/
theorem part25 (c : Dev nD) (T : Set ℕ) (v2 z : BitVec 32) (y : FVec F S1024x512 .f32) (hy : y = extf .f32 (stack (ybv m (peer c 2) c)) bitsLt_bf16_f32) {Q : PUnit → sProp 𝕄} :
    iprop(records m K ∗ Out m c T ∗ waitTok (rcvCell c 0 0) ∗ waitTok (rcvCell c 0 1) ∗ Owes c 0)
      ⊢ iprop((∀ r : PUnit, iprop(Out m c ({n | n / 4 = (peer c 2).val} ∪ T) ∗ rcvPay m c 0 0 ∗ semVal (rcvCell c 0 0) 0 ∗ rcvPay m c 0 1 ∗ semVal (rcvCell c 0 1) 0 ∗ Owes c 0) -∗ Q r)
        -∗ WP c (k0_part25 (F := F) xM h0 wM h1 oM h2 xsM h3 xbM h4 wsM h5 ybM h6 rbM h7 cc0_scratch5 cc0_scratch6 cc0_scratch7 cc0_scratch8 c v2 z y) Q) := by
  rw [k0_part25_eq_skeleton]; unfold k0_part25_skel
  simp only [semSignalWord, semWaitWord, Prog.lift, Prog.bind_op, Prog.bind_ret, Prog.pure_eq_ret, wp_deviceId]
  iintro ⟨#HR, OUT, Q00, Q01, HO⟩ Hk
  iapply (out_load m c _) $$ OUT; iintro %_ OUT
  iapply (out_put_slab m c (peer c 2) (peer_ne c 2) _ (off3_eq3 c) (hy)) $$ OUT; iintro OUT
  iapply (rcv_wait m K c 0 0) $$ [Q00 HO]
  · isplitr; · iexact HR
    isplitl [Q00] <;> iassumption
  iintro ⟨P00, V00, HO⟩
  iapply (rcv_wait m K c 0 1) $$ [Q01 HO]
  · isplitr; · iexact HR
    isplitl [Q01] <;> iassumption
  iintro ⟨P01, V01, HO⟩
  iapply (finish c _)
  iapply Hk
  isplitl [OUT]; · iexact OUT
  isplitl [P00]; · iexact P00
  isplitl [V00]; · iexact V00
  isplitl [P01]; · iexact P01
  isplitl [V01] <;> iassumption

/-- The other two arrive, and the slab goes to the output. -/
theorem part26 (c : Dev nD) (T : Set ℕ) (v2 : BitVec 32) {Q : PUnit → sProp 𝕄} :
    iprop(records m K ∗ waitTok (rcvCell c 0 2) ∗ waitTok (rcvCell c 0 3) ∗ rcvPay m c 0 0 ∗ rcvPay m c 0 1 ∗ Out m c T ∗ Owes c 0)
      ⊢ iprop((∀ r : PUnit, iprop(semVal (rcvCell c 0 2) 0 ∗ semVal (rcvCell c 0 3) 0 ∗ slabPts c 0 ∗ Out m c ({n | n / 4 = (peer c 0).val} ∪ T) ∗ Owes c 0) -∗ Q r)
        -∗ WP c (k0_part26 (F := F) xM h0 wM h1 oM h2 xsM h3 xbM h4 wsM h5 ybM h6 rbM h7 cc0_scratch5 cc0_scratch6 cc0_scratch7 cc0_scratch8 c v2) Q) := by
  rw [k0_part26_eq_skeleton]; unfold k0_part26_skel
  simp only [semSignalWord, semWaitWord, Prog.lift, Prog.bind_op, Prog.bind_ret, Prog.pure_eq_ret, wp_deviceId]
  iintro ⟨#HR, Q02, Q03, P00, P01, OUT, HO⟩ Hk
  iapply (rcv_wait m K c 0 2) $$ [Q02 HO]
  · isplitr; · iexact HR
    isplitl [Q02] <;> iassumption
  iintro ⟨P02, V02, HO⟩
  iapply (rcv_wait m K c 0 3) $$ [Q03 HO]
  · isplitr; · iexact HR
    isplitl [Q03] <;> iassumption
  iintro ⟨P03, V03, HO⟩
  iapply (rb_load m c 0) $$ [P00 P01 P02 P03]
  · unfold landed
    isplitl [P00]; · iexact P00
    isplitl [P01]; · iexact P01
    isplitl [P02] <;> iassumption
  iintro %v %hv S0
  iapply (out_load m c _) $$ OUT; iintro %_ OUT
  iapply (out_put_slab m c (peer c 0) (peer_ne c 0) _ (off3_eq1 c) (widen m hv)) $$ OUT; iintro OUT
  iapply (finish c _)
  iapply Hk
  isplitl [V02]; · iexact V02
  isplitl [V03]; · iexact V03
  isplitl [S0]; · iexact S0
  isplitl [OUT] <;> iassumption

end

end Cert.KernelIdeal.Hand

end
-- ==== Proof.KernelIdeal.PartsF.lean ====
/-
The departures are waited for.
-/
module

public import proofs.«01_k».proof.Proof.KernelIdeal.Values

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

section
variable (h0 : xM.IsWhole) (h1 : wM.IsWhole) (h2 : oM.IsWhole) (h3 : xsM.IsWhole) (h4 : xbM.IsWhole) (h5 : wsM.IsWhole) (h6 : ybM.IsWhole) (h7 : rbM.IsWhole)

/-- Sent blocks have left. -/
theorem part27 (c : Dev nD) {Q : PUnit → sProp 𝕄} :
    iprop(records m K ∗ waitTok (sndCell c 1 0) ∗ waitTok (sndCell c 1 1) ∗ waitTok (sndCell c 1 2) ∗ Owes c 0)
      ⊢ iprop((∀ r : PUnit, iprop(sndPay c 1 0 ∗ semVal (sndCell c 1 0) 0 ∗ sndPay c 1 1 ∗ semVal (sndCell c 1 1) 0 ∗ sndPay c 1 2 ∗ semVal (sndCell c 1 2) 0 ∗ Owes c 0) -∗ Q r)
        -∗ WP c (k0_part27 (F := F) xM h0 wM h1 oM h2 xsM h3 xbM h4 wsM h5 ybM h6 rbM h7 cc0_scratch5 cc0_scratch6 cc0_scratch7 cc0_scratch8) Q) := by
  rw [k0_part27_eq_skeleton]; unfold k0_part27_skel
  simp only [semSignalWord, semWaitWord, Prog.lift, Prog.bind_op, Prog.bind_ret, Prog.pure_eq_ret, wp_deviceId]
  iintro ⟨#HR, Z10, Z11, Z12, HO⟩ Hk
  iapply (snd_wait m K c 1 0) $$ [Z10 HO]
  · isplitr; · iexact HR
    isplitl [Z10] <;> iassumption
  iintro ⟨P10, V10, HO⟩
  iapply (snd_wait m K c 1 1) $$ [Z11 HO]
  · isplitr; · iexact HR
    isplitl [Z11] <;> iassumption
  iintro ⟨P11, V11, HO⟩
  iapply (snd_wait m K c 1 2) $$ [Z12 HO]
  · isplitr; · iexact HR
    isplitl [Z12] <;> iassumption
  iintro ⟨P12, V12, HO⟩
  iapply (finish c _)
  iapply Hk
  isplitl [P10]; · iexact P10
  isplitl [V10]; · iexact V10
  isplitl [P11]; · iexact P11
  isplitl [V11]; · iexact V11
  isplitl [P12]; · iexact P12
  isplitl [V12] <;> iassumption

/-- Sent blocks have left. -/
theorem part28 (c : Dev nD) {Q : PUnit → sProp 𝕄} :
    iprop(records m K ∗ waitTok (sndCell c 1 3) ∗ waitTok (sndCell c 0 0) ∗ waitTok (sndCell c 0 1) ∗ Owes c 0)
      ⊢ iprop((∀ r : PUnit, iprop(sndPay c 1 3 ∗ semVal (sndCell c 1 3) 0 ∗ sndPay c 0 0 ∗ semVal (sndCell c 0 0) 0 ∗ sndPay c 0 1 ∗ semVal (sndCell c 0 1) 0 ∗ Owes c 0) -∗ Q r)
        -∗ WP c (k0_part28 (F := F) xM h0 wM h1 oM h2 xsM h3 xbM h4 wsM h5 ybM h6 rbM h7 cc0_scratch5 cc0_scratch6 cc0_scratch7 cc0_scratch8) Q) := by
  rw [k0_part28_eq_skeleton]; unfold k0_part28_skel
  simp only [semSignalWord, semWaitWord, Prog.lift, Prog.bind_op, Prog.bind_ret, Prog.pure_eq_ret, wp_deviceId]
  iintro ⟨#HR, Z13, Z00, Z01, HO⟩ Hk
  iapply (snd_wait m K c 1 3) $$ [Z13 HO]
  · isplitr; · iexact HR
    isplitl [Z13] <;> iassumption
  iintro ⟨P13, V13, HO⟩
  iapply (snd_wait m K c 0 0) $$ [Z00 HO]
  · isplitr; · iexact HR
    isplitl [Z00] <;> iassumption
  iintro ⟨P00, V00, HO⟩
  iapply (snd_wait m K c 0 1) $$ [Z01 HO]
  · isplitr; · iexact HR
    isplitl [Z01] <;> iassumption
  iintro ⟨P01, V01, HO⟩
  iapply (finish c _)
  iapply Hk
  isplitl [P13]; · iexact P13
  isplitl [V13]; · iexact V13
  isplitl [P00]; · iexact P00
  isplitl [V00]; · iexact V00
  isplitl [P01]; · iexact P01
  isplitl [V01] <;> iassumption

/-- Sent blocks have left. -/
theorem part29 (c : Dev nD) {Q : PUnit → sProp 𝕄} :
    iprop(records m K ∗ waitTok (sndCell c 0 2) ∗ waitTok (sndCell c 0 3) ∗ waitTok (sndCell c 2 0) ∗ waitTok (sndCell c 2 1) ∗ Owes c 0)
      ⊢ iprop((∀ r : PUnit, iprop(sndPay c 0 2 ∗ semVal (sndCell c 0 2) 0 ∗ sndPay c 0 3 ∗ semVal (sndCell c 0 3) 0 ∗ sndPay c 2 0 ∗ semVal (sndCell c 2 0) 0 ∗ sndPay c 2 1 ∗ semVal (sndCell c 2 1) 0 ∗ Owes c 0) -∗ Q r)
        -∗ WP c (k0_part29 (F := F) xM h0 wM h1 oM h2 xsM h3 xbM h4 wsM h5 ybM h6 rbM h7 cc0_scratch5 cc0_scratch6 cc0_scratch7 cc0_scratch8) Q) := by
  rw [k0_part29_eq_skeleton]; unfold k0_part29_skel
  simp only [semSignalWord, semWaitWord, Prog.lift, Prog.bind_op, Prog.bind_ret, Prog.pure_eq_ret, wp_deviceId]
  iintro ⟨#HR, Z02, Z03, Z20, Z21, HO⟩ Hk
  iapply (snd_wait m K c 0 2) $$ [Z02 HO]
  · isplitr; · iexact HR
    isplitl [Z02] <;> iassumption
  iintro ⟨P02, V02, HO⟩
  iapply (snd_wait m K c 0 3) $$ [Z03 HO]
  · isplitr; · iexact HR
    isplitl [Z03] <;> iassumption
  iintro ⟨P03, V03, HO⟩
  iapply (snd_wait m K c 2 0) $$ [Z20 HO]
  · isplitr; · iexact HR
    isplitl [Z20] <;> iassumption
  iintro ⟨P20, V20, HO⟩
  iapply (snd_wait m K c 2 1) $$ [Z21 HO]
  · isplitr; · iexact HR
    isplitl [Z21] <;> iassumption
  iintro ⟨P21, V21, HO⟩
  iapply (finish c _)
  iapply Hk
  isplitl [P02]; · iexact P02
  isplitl [V02]; · iexact V02
  isplitl [P03]; · iexact P03
  isplitl [V03]; · iexact V03
  isplitl [P20]; · iexact P20
  isplitl [V20]; · iexact V20
  isplitl [P21]; · iexact P21
  isplitl [V21] <;> iassumption

end

end Cert.KernelIdeal.Hand

end
-- ==== Proof.KernelIdeal.Body.lean ====
/-
The whole body of the kernel on one device, part after part.
-/
module

public import proofs.«01_k».proof.Proof.KernelIdeal.PartsA
public import proofs.«01_k».proof.Proof.KernelIdeal.PartsB
public import proofs.«01_k».proof.Proof.KernelIdeal.PartsC
public import proofs.«01_k».proof.Proof.KernelIdeal.PartsD
public import proofs.«01_k».proof.Proof.KernelIdeal.PartsE
public import proofs.«01_k».proof.Proof.KernelIdeal.PartsF

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- One piece for each block. -/
def grid (Φ : Fin 3 → Fin 4 → sProp 𝕄) : sProp 𝕄 :=
  iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3))

/-- What device `c` begins its body with. -/
def start (c : Dev nD) : sProp 𝕄 :=
  iprop(xIdle m c 0 ∗ xIdle m c 1 ∗ wIdle m c 0 ∗ wIdle m c 1 ∗ XB m c 0 ∗ Out m c ∅ ∗ slabPts c 0 ∗ slabPts c 1 ∗ slabPts c 2
    ∗ dutyTok ER (barCell (peer c 0)) 0 0 ∗ dutyTok ER (barCell (peer c 1)) 0 1 ∗ dutyTok ER (barCell (peer c 2)) 0 2
    ∗ atPos ER (barCell c) 0 ∅ 0 ∗ cred (tallyAt (barCell c) () 3)
    ∗ grid (fun a q => anyW c (ybW a q)) ∗ grid (fun a q => sendTok c a q) ∗ grid (fun a q => waitTok (rcvCell c a q))
    ∗ grid (fun a q => atPos ER (sndCell c a q) 0 ∅ 0) ∗ Owes c (O₀ c))

/-- What it ends with: every buffer back, every semaphore at zero, nothing owed, and the output filled. -/
def finished (c : Dev nD) : sProp 𝕄 :=
  iprop(xIdle m c 0 ∗ xIdle m c 1 ∗ wIdle m c 0 ∗ wIdle m c 1 ∗ XB m c 4 ∗ (oM.view.loc (c : Thread nD τ) ↦{fullShare} outAt m c)
    ∗ slabPts c 0 ∗ slabPts c 1 ∗ slabPts c 2 ∗ semVal (barCell c) 0
    ∗ grid (fun a q => sndPay c a q) ∗ grid (fun a q => semVal (sndCell c a q) 0) ∗ grid (fun a q => semVal (rcvCell c a q) 0) ∗ Owes c 0)

/-- A sequence runs its first program and then the rest. -/
theorem bind_WP (c : Dev nD) {α β : Type} {p : Prog (TpuEff nD τ sig (Elt F) Λ₀ .tc) α} {k : α → Prog (TpuEff nD τ sig (Elt F) Λ₀ .tc) β}
    {Q : β → sProp 𝕄} : WP c p (fun a => WP c (k a) Q) ⊢ WP c (p >>= k) Q := by
  unfold WP
  rw [wp_bind]

/-- What the device `a + 1` places on grants with its signal: the windows the blocks sent to it land in. -/
theorem landing (c : Dev nD) (a : Fin 3) : (barPay c (rev a) : sProp 𝕄)
    ⊢ iprop(anyW (peer c a) (rbW (rev a) 0) ∗ anyW (peer c a) (rbW (rev a) 1) ∗ anyW (peer c a) (rbW (rev a) 2) ∗ anyW (peer c a) (rbW (rev a) 3)) := by
  unfold barPay slabPts
  rw [rev_rev]

/-- The four own blocks and the three slabs are the whole output. -/
theorem cover (c : Dev nD) (n : Fin 16) : n.val / 4 = (peer c 0).val ∨ n.val / 4 = (peer c 2).val ∨ n.val / 4 = (peer c 1).val
    ∨ n.val = 4 * c.val + (3 : Fin 4).val ∨ n.val = 4 * c.val + (2 : Fin 4).val ∨ n.val = 4 * c.val + (1 : Fin 4).val ∨ n.val = 4 * c.val + (0 : Fin 4).val := by
  revert c n; decide

/-- An output that agrees with its contents on every block is them. -/
theorem out_full (c : Dev nD) (T : Set ℕ) (hT : ∀ n : Fin 16, n.val ∈ T) :
    Out m c T ⊢ (oM.view.loc (c : Thread nD τ) ↦{fullShare} outAt m c) := by
  unfold Out
  iintro ⟨%f, %hf, H⟩
  have e : f = outAt m c := funext fun i => hf i (hT ⟨(i 0).val / 256, by have h : (i 0).val < 4096 := (i 0).isLt; omega⟩)
  rw [e]
  iexact H

section
variable (h0 : xM.IsWhole) (h1 : wM.IsWhole) (h2 : oM.IsWhole) (h3 : xsM.IsWhole) (h4 : xbM.IsWhole) (h5 : wsM.IsWhole) (h6 : ybM.IsWhole) (h7 : rbM.IsWhole)

set_option maxRecDepth 65536 in
/-- The body takes a device from `start` to `finished`. -/
theorem body (c : Dev nD) {Q : PUnit → sProp 𝕄} :
    iprop(records m K ∗ levAts L lv ∗ start m c)
      ⊢ iprop((finished m c -∗ Q ⟨⟩) -∗ WP c (cc0_body (F := F) xM h0 wM h1 oM h2 xsM h3 xbM h4 wsM h5 ybM h6 rbM h7 cc0_scratch5 cc0_scratch6 cc0_scratch7 cc0_scratch8) Q) := by
  rw [cc0_body_eq_skeleton]; unfold cc0_body_skel
  unfold start grid
  iintro ⟨#HR, #Lv, X0, X1, W0, W1, XB, OUT, S0, S1, S2, B0, B1, B2, BA, BC, ⟨⟨Y00, Y01, Y02, Y03⟩, ⟨Y10, Y11, Y12, Y13⟩, ⟨Y20, Y21, Y22, Y23⟩⟩, ⟨⟨T00, T01, T02, T03⟩, ⟨T10, T11, T12, T13⟩, ⟨T20, T21, T22, T23⟩⟩, ⟨⟨Q00, Q01, Q02, Q03⟩, ⟨Q10, Q11, Q12, Q13⟩, ⟨Q20, Q21, Q22, Q23⟩⟩, ⟨⟨A00, A01, A02, A03⟩, ⟨A10, A11, A12, A13⟩, ⟨A20, A21, A22, A23⟩⟩, HO⟩ Hk
  iapply (bind_WP c)
  rw [k0_part30_eq_skeleton]; unfold k0_part30_skel
  iapply (bind_WP c)
  iapply (part1 m h0 h1 h2 h3 h4 h5 h6 h7 c) $$ [X0 W0]
  · isplitl [X0]; · iexact X0
    iexact W0
  iintro %r %hr ⟨X0, W0⟩
  obtain ⟨d0, v2, v25, v28, v29, v30⟩ := r
  obtain ⟨hd, hv⟩ := hr
  dsimp only at hd hv
  subst d0 v25
  dsimp only
  iapply (bind_WP c)
  iapply (part2 m K h0 h1 h2 h3 h4 h5 h6 h7 c v2 v28 v29 v30) $$ [B0 S0 B1 S1 HO]
  · isplitr; · iexact HR
    isplitl [B0]; · iexact B0
    isplitl [S0]; · iexact S0
    isplitl [B1]; · iexact B1
    isplitl [S1]; · iexact S1
    iexact HO
  iintro %r HO
  obtain ⟨v63, z2⟩ := r
  dsimp only
  iapply (bind_WP c)
  iapply (part3 m K h0 h1 h2 h3 h4 h5 h6 h7 c v2 v63 _) $$ [B2 S2 BA BC W0 HO]
  · isplitr; · iexact HR
    isplitr; · iexact Lv
    isplitl [B2]; · iexact B2
    isplitl [S2]; · iexact S2
    isplitl [BA]; · iexact BA
    isplitl [BC]; · iexact BC
    isplitl [W0]; · iexact W0
    iexact HO
  iintro %r3 ⟨E0, E1, E2, BV, W0, HO⟩
  ihave D := (show (barPay c 2 : sProp 𝕄) ⊢ _ from landing c 0) $$ E2; icases D with ⟨D00, D01, D02, D03⟩
  ihave D := (show (barPay c 1 : sProp 𝕄) ⊢ _ from landing c 1) $$ E1; icases D with ⟨D10, D11, D12, D13⟩
  ihave D := (show (barPay c 0 : sProp 𝕄) ⊢ _ from landing c 2) $$ E0; icases D with ⟨D20, D21, D22, D23⟩
  iapply (bind_WP c)
  iapply (part4 m h0 h1 h2 h3 h4 h5 h6 h7 c _) $$ [W1 W0 X1 X0 XB Y10 HO]
  · isplitr; · iexact Lv
    isplitl [W1]; · iexact W1
    isplitl [W0]; · iexact W0
    isplitl [X1]; · iexact X1
    isplitl [X0]; · iexact X0
    isplitl [XB]; · iexact XB
    isplitl [Y10]; · iexact Y10
    iexact HO
  iintro %r %hr ⟨W1, W0, X1, X0, XB, Y10, HO⟩
  obtain ⟨w1, y1⟩ := r
  obtain ⟨hw1, hy1⟩ := hr
  dsimp only
  iapply (bind_WP c)
  iapply (part5 m K h0 h1 h2 h3 h4 h5 h6 h7 c _ v2 y1 hy1) $$ [Y10 T10 D10 X0 HO]
  · isplitr; · iexact HR
    isplitl [Y10]; · iexact Y10
    isplitl [T10]; · iexact T10
    isplitl [D10]; · iexact D10
    isplitl [X0]; · iexact X0
    iexact HO
  iintro %r5 ⟨C10, X0, HO⟩
  iapply (bind_WP c)
  iapply (part6 m h0 h1 h2 h3 h4 h5 h6 h7 c _ v2 w1 hw1) $$ [X1 XB Y11 HO]
  · isplitr; · iexact Lv
    isplitl [X1]; · iexact X1
    isplitl [XB]; · iexact XB
    isplitl [Y11]; · iexact Y11
    iexact HO
  iintro %r6 ⟨X1, XB, Y11, HO⟩
  iapply (bind_WP c)
  iapply (part7 m K h0 h1 h2 h3 h4 h5 h6 h7 c _ w1 hw1) $$ [T11 Y11 D11 X1 X0 XB Y12 HO]
  · isplitr; · iexact HR
    isplitr; · iexact Lv
    isplitl [T11]; · iexact T11
    isplitl [Y11]; · iexact Y11
    isplitl [D11]; · iexact D11
    isplitl [X1]; · iexact X1
    isplitl [X0]; · iexact X0
    isplitl [XB]; · iexact XB
    isplitl [Y12]; · iexact Y12
    iexact HO
  iintro %z7 ⟨C11, X1, X0, XB, Y12, HO⟩
  iapply (bind_WP c)
  iapply (part8 m K h0 h1 h2 h3 h4 h5 h6 h7 c _ v2 _) $$ [T12 Y12 D12 X1 HO]
  · isplitr; · iexact HR
    isplitr; · iexact Lv
    isplitl [T12]; · iexact T12
    isplitl [Y12]; · iexact Y12
    isplitl [D12]; · iexact D12
    isplitl [X1]; · iexact X1
    iexact HO
  iintro %x3 %hx3 ⟨C12, X1, HO⟩
  iapply (bind_WP c)
  iapply (part9 m K h0 h1 h2 h3 h4 h5 h6 h7 c _ v2 w1 x3 hw1 hx3) $$ [XB Y13 T13 D13 HO]
  · isplitr; · iexact HR
    isplitl [XB]; · iexact XB
    isplitl [Y13]; · iexact Y13
    isplitl [T13]; · iexact T13
    isplitl [D13]; · iexact D13
    iexact HO
  iintro %r ⟨XB, C13, HO⟩
  obtain ⟨z9, z9'⟩ := r
  dsimp only
  iapply (bind_WP c)
  iapply (part10 m h0 h1 h2 h3 h4 h5 h6 h7 c _ v2 _ _) $$ [W0 W1 HO]
  · isplitr; · iexact Lv
    isplitl [W0]; · iexact W0
    isplitl [W1]; · iexact W1
    iexact HO
  iintro %r10 ⟨W0, W1, HO⟩
  iapply (bind_WP c)
  iapply (part11 m h0 h1 h2 h3 h4 h5 h6 h7 c v2) $$ [W1 XB Y00]
  · isplitl [W1]; · iexact W1
    isplitl [XB]; · iexact XB
    iexact Y00
  iintro %w0 %hw0 ⟨W1, XB, Y00⟩
  iapply (bind_WP c)
  iapply (part12 m K h0 h1 h2 h3 h4 h5 h6 h7 c _ v2 w0 hw0) $$ [T00 Y00 D00 XB Y01 T01 D01 HO]
  · isplitr; · iexact HR
    isplitl [T00]; · iexact T00
    isplitl [Y00]; · iexact Y00
    isplitl [D00]; · iexact D00
    isplitl [XB]; · iexact XB
    isplitl [Y01]; · iexact Y01
    isplitl [T01]; · iexact T01
    isplitl [D01]; · iexact D01
    iexact HO
  iintro %x2 %hx2 ⟨C00, XB, C01, HO⟩
  iapply (bind_WP c)
  iapply (part13 m K h0 h1 h2 h3 h4 h5 h6 h7 c _ v2 w0 x2 hw0 hx2) $$ [Y02 T02 D02 XB HO]
  · isplitr; · iexact HR
    isplitl [Y02]; · iexact Y02
    isplitl [T02]; · iexact T02
    isplitl [D02]; · iexact D02
    isplitl [XB]; · iexact XB
    iexact HO
  iintro %y3 %hy3 ⟨C02, XB, HO⟩
  iapply (bind_WP c)
  iapply (part14 m K h0 h1 h2 h3 h4 h5 h6 h7 c _ v2 y3 hy3) $$ [Y03 T03 D03 HO]
  · isplitr; · iexact HR
    isplitl [Y03]; · iexact Y03
    isplitl [T03]; · iexact T03
    isplitl [D03]; · iexact D03
    iexact HO
  iintro %r ⟨C03, HO⟩
  obtain ⟨z14, z14a, z14b, z14c⟩ := r
  dsimp only
  iapply (bind_WP c)
  iapply (part15 m h0 h1 h2 h3 h4 h5 h6 h7 c _ v2 _ _ _ _) $$ [W1 W0 XB HO]
  · isplitr; · iexact Lv
    isplitl [W1]; · iexact W1
    isplitl [W0]; · iexact W0
    isplitl [XB]; · iexact XB
    iexact HO
  iintro %r %hr ⟨W1, W0, XB, HO⟩
  obtain ⟨w2, x0⟩ := r
  obtain ⟨hw2, hx0⟩ := hr
  dsimp only
  iapply (bind_WP c)
  iapply (part16 m K h0 h1 h2 h3 h4 h5 h6 h7 c _ v2 w2 x0 hw2 hx0) $$ [Y20 T20 D20 XB HO]
  · isplitr; · iexact HR
    isplitl [Y20]; · iexact Y20
    isplitl [T20]; · iexact T20
    isplitl [D20]; · iexact D20
    isplitl [XB]; · iexact XB
    iexact HO
  iintro %y5 %hy5 ⟨C20, XB, HO⟩
  iapply (bind_WP c)
  iapply (part17 m K h0 h1 h2 h3 h4 h5 h6 h7 c _ v2 w2 y5 hw2 hy5) $$ [Y21 T21 D21 XB HO]
  · isplitr; · iexact HR
    isplitl [Y21]; · iexact Y21
    isplitl [T21]; · iexact T21
    isplitl [D21]; · iexact D21
    isplitl [XB]; · iexact XB
    iexact HO
  iintro %y6 %hy6 ⟨C21, XB, HO⟩
  iapply (bind_WP c)
  iapply (part18 m K h0 h1 h2 h3 h4 h5 h6 h7 c _ v2 w2 y6 hw2 hy6) $$ [Y22 T22 D22 XB Y23 HO]
  · isplitr; · iexact HR
    isplitl [Y22]; · iexact Y22
    isplitl [T22]; · iexact T22
    isplitl [D22]; · iexact D22
    isplitl [XB]; · iexact XB
    isplitl [Y23]; · iexact Y23
    iexact HO
  iintro %r18 ⟨C22, XB, Y23, HO⟩
  iapply (bind_WP c)
  iapply (part19 m K h0 h1 h2 h3 h4 h5 h6 h7 c _ v2) $$ [T23 Y23 D23 HO]
  · isplitr; · iexact HR
    isplitl [T23]; · iexact T23
    isplitl [Y23]; · iexact Y23
    isplitl [D23]; · iexact D23
    iexact HO
  iintro %r ⟨C23, HO⟩
  obtain ⟨z19, z19a⟩ := r
  dsimp only
  iapply (bind_WP c)
  iapply (part20 m h0 h1 h2 h3 h4 h5 h6 h7 c _ _ v2 _ _) $$ [W1 XB OUT HO]
  · isplitr; · iexact Lv
    isplitl [W1]; · iexact W1
    isplitl [XB]; · iexact XB
    isplitl [OUT]; · iexact OUT
    iexact HO
  iintro %r %hr ⟨W1, XB, OUT, HO⟩
  obtain ⟨w3, y7⟩ := r
  obtain ⟨hw3, hy7⟩ := hr
  dsimp only
  iapply (bind_WP c)
  iapply (part21 m K h0 h1 h2 h3 h4 h5 h6 h7 c _ v2 w3 y7 hw3 hy7) $$ [OUT XB Q10 Q11 HO]
  · isplitr; · iexact HR
    isplitl [OUT]; · iexact OUT
    isplitl [XB]; · iexact XB
    isplitl [Q10]; · iexact Q10
    isplitl [Q11]; · iexact Q11
    iexact HO
  iintro %r21 ⟨OUT, XB, P10, V10, P11, V11, HO⟩
  iapply (bind_WP c)
  iapply (part22 m K h0 h1 h2 h3 h4 h5 h6 h7 c v2) $$ [Q12 Q13 HO]
  · isplitr; · iexact HR
    isplitl [Q12]; · iexact Q12
    isplitl [Q13]; · iexact Q13
    iexact HO
  iintro %z22 ⟨P12, V12, P13, V13, HO⟩
  iapply (bind_WP c)
  iapply (part23 m K h0 h1 h2 h3 h4 h5 h6 h7 c _ v2 _) $$ [P10 P11 P12 P13 OUT Q20 Q21 HO]
  · isplitr; · iexact HR
    isplitl [P10]; · iexact P10
    isplitl [P11]; · iexact P11
    isplitl [P12]; · iexact P12
    isplitl [P13]; · iexact P13
    isplitl [OUT]; · iexact OUT
    isplitl [Q20]; · iexact Q20
    isplitl [Q21]; · iexact Q21
    iexact HO
  iintro %r23 ⟨S1, OUT, P20, V20, P21, V21, HO⟩
  iapply (bind_WP c)
  iapply (part24 m K h0 h1 h2 h3 h4 h5 h6 h7 c v2) $$ [Q22 Q23 P20 P21 HO]
  · isplitr; · iexact HR
    isplitl [Q22]; · iexact Q22
    isplitl [Q23]; · iexact Q23
    isplitl [P20]; · iexact P20
    isplitl [P21]; · iexact P21
    iexact HO
  iintro %r %hr ⟨V22, V23, S2, HO⟩
  obtain ⟨z24, y8⟩ := r
  have hy8 := hr
  dsimp only
  iapply (bind_WP c)
  iapply (part25 m K h0 h1 h2 h3 h4 h5 h6 h7 c _ v2 _ y8 hy8) $$ [OUT Q00 Q01 HO]
  · isplitr; · iexact HR
    isplitl [OUT]; · iexact OUT
    isplitl [Q00]; · iexact Q00
    isplitl [Q01]; · iexact Q01
    iexact HO
  iintro %r25 ⟨OUT, P00, V00, P01, V01, HO⟩
  iapply (bind_WP c)
  iapply (part26 m K h0 h1 h2 h3 h4 h5 h6 h7 c _ v2) $$ [Q02 Q03 P00 P01 OUT HO]
  · isplitr; · iexact HR
    isplitl [Q02]; · iexact Q02
    isplitl [Q03]; · iexact Q03
    isplitl [P00]; · iexact P00
    isplitl [P01]; · iexact P01
    isplitl [OUT]; · iexact OUT
    iexact HO
  iintro %r26 ⟨V02, V03, S0, OUT, HO⟩
  iapply (bind_WP c)
  iapply (part27 m K h0 h1 h2 h3 h4 h5 h6 h7 c) $$ [A10 C10 A11 C11 A12 C12 HO]
  · isplitr; · iexact HR
    isplitl [A10 C10]; · unfold waitTok; isplitl [A10] <;> iassumption
    isplitl [A11 C11]; · unfold waitTok; isplitl [A11] <;> iassumption
    isplitl [A12 C12]; · unfold waitTok; isplitl [A12] <;> iassumption
    iexact HO
  iintro %r27 ⟨N10, U10, N11, U11, N12, U12, HO⟩
  iapply (bind_WP c)
  iapply (part28 m K h0 h1 h2 h3 h4 h5 h6 h7 c) $$ [A13 C13 A00 C00 A01 C01 HO]
  · isplitr; · iexact HR
    isplitl [A13 C13]; · unfold waitTok; isplitl [A13] <;> iassumption
    isplitl [A00 C00]; · unfold waitTok; isplitl [A00] <;> iassumption
    isplitl [A01 C01]; · unfold waitTok; isplitl [A01] <;> iassumption
    iexact HO
  iintro %r28 ⟨N13, U13, N00, U00, N01, U01, HO⟩
  iapply (bind_WP c)
  iapply (part29 m K h0 h1 h2 h3 h4 h5 h6 h7 c) $$ [A02 C02 A03 C03 A20 C20 A21 C21 HO]
  · isplitr; · iexact HR
    isplitl [A02 C02]; · unfold waitTok; isplitl [A02] <;> iassumption
    isplitl [A03 C03]; · unfold waitTok; isplitl [A03] <;> iassumption
    isplitl [A20 C20]; · unfold waitTok; isplitl [A20] <;> iassumption
    isplitl [A21 C21]; · unfold waitTok; isplitl [A21] <;> iassumption
    iexact HO
  iintro %r29 ⟨N02, U02, N03, U03, N20, U20, N21, U21, HO⟩
  simp only [Prog.lift, Prog.bind_op, Prog.bind_ret, Prog.pure_eq_ret]
  iapply (snd_wait m K c 2 2) $$ [A22 C22 HO]
  · isplitr; · iexact HR
    isplitl [A22 C22]; · unfold waitTok; isplitl [A22] <;> iassumption
    iexact HO
  iintro ⟨N22, U22, HO⟩
  iapply (finish c _)
  iapply (snd_wait m K c 2 3) $$ [A23 C23 HO]
  · isplitr; · iexact HR
    isplitl [A23 C23]; · unfold waitTok; isplitl [A23] <;> iassumption
    iexact HO
  iintro ⟨N23, U23, HO⟩
  iapply (finish c _)
  iapply Hk
  unfold finished grid
  isplitl [X0]; · iapply (xFull_idle m c 0 2); iexact X0
  isplitl [X1]; · iapply (xFull_idle m c 1 3); iexact X1
  isplitl [W0]; · iapply (wFull_idle m c 0 (peer c 2)); iexact W0
  isplitl [W1]; · iapply (wFull_idle m c 1 c); iexact W1
  isplitl [XB]; · iexact XB
  isplitl [OUT]
  · iapply (out_full m c _ (fun n => by
      simp only [Set.mem_union, Set.mem_setOf_eq, Set.mem_insert_iff]
      rcases cover c n with h | h | h | h | h | h | h <;> simp only [h, true_or, or_true])) $$ OUT
  isplitl [S0]; · iexact S0
  isplitl [S1]; · iexact S1
  isplitl [S2]; · iexact S2
  isplitl [BV]; · iexact BV
  isplitl [N00 N01 N02 N03 N10 N11 N12 N13 N20 N21 N22 N23]
  · isplitl [N00 N01 N02 N03]
    · isplitl [N00]; · iexact N00
      isplitl [N01]; · iexact N01
      isplitl [N02] <;> iassumption
    isplitl [N10 N11 N12 N13]
    · isplitl [N10]; · iexact N10
      isplitl [N11]; · iexact N11
      isplitl [N12] <;> iassumption
    isplitl [N20]; · iexact N20
    isplitl [N21]; · iexact N21
    isplitl [N22] <;> iassumption
  isplitl [U00 U01 U02 U03 U10 U11 U12 U13 U20 U21 U22 U23]
  · isplitl [U00 U01 U02 U03]
    · isplitl [U00]; · iexact U00
      isplitl [U01]; · iexact U01
      isplitl [U02] <;> iassumption
    isplitl [U10 U11 U12 U13]
    · isplitl [U10]; · iexact U10
      isplitl [U11]; · iexact U11
      isplitl [U12] <;> iassumption
    isplitl [U20]; · iexact U20
    isplitl [U21]; · iexact U21
    isplitl [U22] <;> iassumption
  isplitl [V00 V01 V02 V03 V10 V11 V12 V13 V20 V21 V22 V23]
  · isplitl [V00 V01 V02 V03]
    · isplitl [V00]; · iexact V00
      isplitl [V01]; · iexact V01
      isplitl [V02] <;> iassumption
    isplitl [V10 V11 V12 V13]
    · isplitl [V10]; · iexact V10
      isplitl [V11]; · iexact V11
      isplitl [V12] <;> iassumption
    isplitl [V20]; · iexact V20
    isplitl [V21]; · iexact V21
    isplitl [V22] <;> iassumption
  iexact HO

end

end Cert.KernelIdeal.Hand

end
-- ==== Proof.KernelIdeal.Tokens.lean ====
/-
What the launch mints for the protocol and how it is dealt out: every device's positions on its own cells, the tokens of the
duties it pays on its peers' cells, and the credit of what its peers owe it.
-/
module

public import proofs.«01_k».proof.Proof.KernelIdeal.Body
public import Idealize.ShloMosaic.Lib.Pipeline.BigSepL

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the blocks -/

theorem fin3_eq (Φ : Fin 3 → sProp 𝕄) : bigSep Finset.univ Φ = iprop(Φ 0 ∗ Φ 1 ∗ Φ 2) := bigSep_univ_eq_bigSepL [0, 1, 2] (by decide) (by decide) Φ
theorem fin4_eq (Φ : Fin 4 → sProp 𝕄) : bigSep Finset.univ Φ = iprop(Φ 0 ∗ Φ 1 ∗ Φ 2 ∗ Φ 3) := bigSep_univ_eq_bigSepL [0, 1, 2, 3] (by decide) (by decide) Φ

/-- A family over the blocks is its grid. -/
theorem grid_eq (Φ : Fin 3 → Fin 4 → sProp 𝕄) : (bigSep Finset.univ fun p : Fin 3 × Fin 4 => Φ p.1 p.2) = grid Φ := by
  rw [bigSep_univ_prod, fin3_eq, fin4_eq, fin4_eq, fin4_eq]; rfl

theorem sep_turn (A B C : sProp 𝕄) : BI.sep (BI.sep A B) C = iprop(C ∗ A ∗ B) := by
  refine BI.Entails.antisymm (show iprop((A ∗ B) ∗ C) ⊢ (iprop(C ∗ A ∗ B) : sProp 𝕄) from ?_) (show iprop(C ∗ A ∗ B) ⊢ (iprop((A ∗ B) ∗ C) : sProp 𝕄) from ?_)
  · iintro ⟨⟨H1, H2⟩, H3⟩
    isplitl [H3]; · iexact H3
    isplitl [H1] <;> iassumption
  · iintro ⟨H3, H1, H2⟩
    isplitr [H3]
    · isplitl [H1] <;> iassumption
    iexact H3

/-- A family over a device's cells: the barrier, the departures, the arrivals. -/
theorem cells_eq (Φ : CK → sProp 𝕄) :
    bigSep Finset.univ Φ = iprop(Φ kBar ∗ grid (fun a q => Φ (kSnd a q)) ∗ grid (fun a q => Φ (kRcv a q))) := by
  rw [bigSep_univ_equiv (Equiv.optionEquivSumPUnit.{0, 0} (Bool × Fin 3 × Fin 4)).symm Φ, BI.bigSep_univ_sum, bigSep_univ_prod,
    bigSep_univ_eq_bigSepL [false, true] (by decide) (by decide), bigSepL_cons_cons, bigSepL_singleton,
    show (Finset.univ : Finset PUnit.{1}) = {PUnit.unit} from rfl, bigSep_singleton, ← grid_eq, ← grid_eq]
  exact sep_turn _ _ _

/-- Two grids, piece by piece. -/
theorem grid_sep (Φ Ψ : Fin 3 → Fin 4 → sProp 𝕄) : grid (fun a q => iprop(Φ a q ∗ Ψ a q)) = iprop(grid Φ ∗ grid Ψ) := by
  rw [← grid_eq, ← grid_eq, ← grid_eq, bigSep_sep']

/-! ## The semaphores -/

/-- The kernel's own semaphores: of its local copies (`false` of `x`, `true` of `w`), and of its copies to the peers. -/
abbrev OwnSem : Type := (Bool × Fin 2) ⊕ (Bool × Fin 3 × Fin 4)
def osem : OwnSem → SemLoc sig
  | .inl (false, b) => .dma (xS b)
  | .inl (true, b) => .dma (wS b)
  | .inr p => csem (some p)

theorem ownSemFacts : Pipeline.OwnSemFacts cfg0.spec osem := by decide +kernel

/-- The semaphores of the local copies at zero. -/
def locals (c : Dev nD) : sProp 𝕄 :=
  iprop(semVal ((c : Thread nD τ), .dma (xS 0)) 0 ∗ semVal ((c : Thread nD τ), .dma (xS 1)) 0
    ∗ semVal ((c : Thread nD τ), .dma (wS 0)) 0 ∗ semVal ((c : Thread nD τ), .dma (wS 1)) 0)

theorem ownSems0_eq (c : Dev nD) :
    (Pipeline.ownSems0 (Ix := Unit) (Name := ℕ) (U := UU) (Lvl := ℕ) (Val := Elt F) (τ := τ) osem c : sProp 𝕄)
      = iprop(locals c ∗ grid (fun a q => semVal (sndCell c a q) 0) ∗ grid (fun a q => semVal (rcvCell c a q) 0)) := by
  unfold Pipeline.ownSems0
  rw [BI.bigSep_univ_sum, bigSep_univ_prod (α := Bool) (β := Fin 3 × Fin 4),
    bigSep_univ_eq_bigSepL [false, true] (by decide) (by decide), bigSepL_cons_cons, bigSepL_singleton,
    bigSep_univ_eq_bigSepL [(false, 0), (false, 1), (true, 0), (true, 1)] (by decide) (by decide),
    bigSepL_cons_cons, bigSepL_cons_cons, bigSepL_cons_cons, bigSepL_singleton, ← grid_eq, ← grid_eq]
  rfl

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of them: the local ones, and one on each cell of the protocol. -/
theorem sems0_split (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : CK => semVal (kcell (c, k)) 0) : sProp 𝕄) := by
  rw [ownSems0_eq, unscopedSems0_eq, cells_eq]
  iintro ⟨⟨HL, HS, HV⟩, HB⟩
  isplitl [HL]; · iexact HL
  isplitl [HB]; · iexact HB
  isplitl [HS] <;> iassumption

/-! ## The launch element -/

def protoCells : Finset (GSem nD τ sig) := Finset.univ.map ⟨kcell, kcell_injective⟩

/-- The duties of a device's own cells: three of its barrier, one of each other cell. -/
abbrev TK : Type := Fin 3 ⊕ (Bool × Fin 3 × Fin 4)
def tokOf (ck : Dev nD × TK) : GSem nD τ sig × ℕ × Fin 3 := match ck.2 with
  | .inl j => (barCell ck.1, 0, j)
  | .inr p => (kcell (ck.1, some p), 0, 0)

theorem tokOf_injective : Function.Injective tokOf := by
  rintro ⟨c, k⟩ ⟨c', k'⟩ h
  rcases k with j | p <;> rcases k' with j' | p' <;> have hc := kcell_injective (congrArg Prod.fst h) <;> have hj := congrArg (fun x => x.2.2) h
  · have h1 := congrArg Prod.fst hc; dsimp only [tokOf] at h1 hj; rw [h1, hj]
  · exact absurd (congrArg Prod.snd hc) (by simp)
  · exact absurd (congrArg Prod.snd hc) (by simp)
  · have h1 := congrArg Prod.fst hc; have h2 := congrArg Prod.snd hc; dsimp only at h1 h2; rw [h1, Option.some.inj h2]

def protoToks : Finset (GSem nD τ sig × ℕ × Fin 3) := Finset.univ.map ⟨tokOf, tokOf_injective⟩

/-- The element the launch mints: the pipeline's, the protocol's, and no counter yet. -/
def u₀ : UU :=
  (initOf (Pipeline.cells cfgs cellOf_inj) (Pipeline.launchToks cfgs cellOf_inj), (initOf protoCells protoToks, 1))

/-- The duty tokens of device `c`'s own cells. -/
def toks (c : Dev nD) : sProp 𝕄 :=
  iprop((bigSep Finset.univ fun j : Fin 3 => dutyTok ER (barCell c) 0 j)
    ∗ grid (fun a q => dutyTok ER (sndCell c a q) 0 0) ∗ grid (fun a q => dutyTok ER (rcvCell c a q) 0 0))

theorem toks_eq (c : Dev nD) : (bigSep Finset.univ fun k : TK => (dutyTok ER (tokOf (c, k)).1 (tokOf (c, k)).2.1 (tokOf (c, k)).2.2 : sProp 𝕄)) = toks c := by
  unfold toks
  rw [BI.bigSep_univ_sum, bigSep_univ_prod (α := Bool) (β := Fin 3 × Fin 4),
    bigSep_univ_eq_bigSepL [false, true] (by decide) (by decide), bigSepL_cons_cons, bigSepL_singleton, ← grid_eq, ← grid_eq]
  rfl

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, and the tokens dealt to the devices that pay -/

/-- The tokens of the duties device `c` pays. -/
def payToks (c : Dev nD) : sProp 𝕄 :=
  iprop((bigSep Finset.univ fun j : Fin 3 => dutyTok ER (barCell (peer c j)) 0 j) ∗ grid (fun a q => sendTok c a q))

/-- Each member `i` of a family taken from the device `t i + 1` places on. -/
def turn {I : Type} (t : I → Fin 3) : Dev nD × I ≃ Dev nD × I :=
  ⟨fun p => (peer p.1 (t p.2), p.2), fun p => (peer p.1 (rev (t p.2)), p.2), fun p => Prod.ext (peer_rev p.1 (t p.2)) rfl, fun p => Prod.ext (peer_rev' p.1 (t p.2)) rfl⟩

theorem turned {I : Type} [Fintype I] (Φ : Dev nD → I → sProp 𝕄) (t : I → Fin 3) :
    (bigSep Finset.univ fun c => bigSep Finset.univ fun i => Φ c i) = bigSep Finset.univ fun c => bigSep Finset.univ fun i => Φ (peer c (t i)) i := by
  rw [← bigSep_univ_prod (fun p : Dev nD × I => Φ p.1 p.2), bigSep_univ_equiv (turn t), bigSep_univ_prod]
  rfl

theorem flip_grid (Φ : Fin 3 → Fin 4 → sProp 𝕄) : grid Φ = grid fun a q => Φ (rev a) q := by
  rw [← grid_eq, ← grid_eq, bigSep_univ_equiv (Equiv.prodCongr Fin.revPerm (Equiv.refl (Fin 4))) (fun p : Fin 3 × Fin 4 => Φ p.1 p.2)]
  rfl

/-- Every token goes to the device that pays the duty. -/
theorem deal : (bigSep Finset.univ fun c : Dev nD => (toks c : sProp 𝕄)) ⊢ bigSep Finset.univ fun c : Dev nD => payToks c := by
  unfold toks payToks sendTok
  have e : (fun c : Dev nD => (grid (fun a q => dutyTok ER (rcvCell c a q) 0 0) : sProp 𝕄))
      = fun c => bigSep Finset.univ fun p : Fin 3 × Fin 4 => dutyTok ER (rcvCell c (rev p.1) p.2) 0 0 := by
    funext c; rw [flip_grid, ← grid_eq]
  simp only [grid_sep]
  rw [bigSep_sep', bigSep_sep', bigSep_sep', bigSep_sep', turned _ (fun j : Fin 3 => j), e, turned _ (fun p : Fin 3 × Fin 4 => p.1)]
  simp only [← grid_eq]
  iintro ⟨H1, H2, H3⟩
  isplitl [H1]; · iexact H1
  isplitl [H2]; · iexact H2
  iexact H3

/-- What the device gets out of the global step: the records at some names, its positions, its tokens, its local semaphores. -/
def G' (c : Dev nD) : sProp 𝕄 :=
  iprop(∃ K, records m K ∗ (bigSep Finset.univ fun k : CK => atPos ER (kcell (c, k)) 0 ∅ 0) ∗ payToks c ∗ locals c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_split (F := F) c) $$ [Hos Hus]
  · isplitl [Hos] <;> iassumption
  icases Hv with ⟨HL, Hv⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- A persistent fact goes to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (deal (F := F)) $$ Htok
  iapply (bigSep_share (R := records m K)
    (Φ := fun c => iprop((bigSep Finset.univ fun k : CK => atPos ER (kcell (c, k)) 0 ∅ 0) ∗ payToks c ∗ locals c)) fun c _ => by
      unfold G'
      iintro ⟨#H, H'⟩
      iexists K
      isplitr; · iexact H
      iexact H')
  isplitr
  · unfold records; isplitl; · iexact HI
    iexact HR
  · rw [bigSep_sep', bigSep_sep']
    isplitl [Hat]; · iexact Hat
    isplitl [Htk] <;> iassumption

/-- The global step: the semaphores of every device at once go into the invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem credit_tally (a : Fin 3) (k : CK) (n : ℕ) (c : Dev nD) :
    (Pipeline.launchCred (fun d => tallyAt (kcell (peer d a, k)) () n) c : sProp 𝕄) ⊢ cred (tallyAt (kcell (c, k)) () n) :=
  Pipeline.launchCred_tallyAt (csem k) (fun d => peer d a) (fun d => peer d (rev a)) (fun d => peer_rev' d a) (fun d => peer_rev d a) () n c

theorem credit_blocks (c : Dev nD) (l : List (Fin 3 × Fin 4)) :
    (Pipeline.launchCred (fun d => Ow d l) c : sProp 𝕄) ⊢ bigSepL l fun p => cred (tallyAt (rcvCell c (rev p.1) p.2) () N) := by
  induction l with
  | nil => exact Entails.of_eq (Pipeline.launchCred_zero c)
  | cons p l ih =>
    rw [bigSepL_cons']
    show (Pipeline.launchCred (fun d => Ow d l + tallyAt (kcell (peer d p.1, kRcv (rev p.1) p.2)) () N) c : sProp 𝕄) ⊢ _
    rw [Pipeline.launchCred_add]
    iintro ⟨H1, H2⟩
    isplitl [H2]
    · iapply (credit_tally p.1 (kRcv (rev p.1) p.2) N c); iexact H2
    · iapply ih; iexact H1

/-- A device starts with three units of its barrier and the credit of each block it is to receive. -/
theorem credits (c : Dev nD) :
    (Pipeline.launchCred O₀ c : sProp 𝕄) ⊢ iprop(cred (tallyAt (barCell c) () 3) ∗ grid (fun a q => cred (tallyAt (rcvCell c a q) () N))) := by
  show (Pipeline.launchCred (fun d => ((Ow d order + tallyAt (kcell (peer d 2, kBar)) () 1) + tallyAt (kcell (peer d 1, kBar)) () 1) + tallyAt (kcell (peer d 0, kBar)) () 1) c : sProp 𝕄) ⊢ _
  rw [Pipeline.launchCred_add, Pipeline.launchCred_add, Pipeline.launchCred_add]
  iintro ⟨⟨⟨H, H2⟩, H1⟩, H0⟩
  ihave H0 := (credit_tally 0 kBar 1 c) $$ H0
  ihave H1 := (credit_tally 1 kBar 1 c) $$ H1
  ihave H2 := (credit_tally 2 kBar 1 c) $$ H2
  ihave H := (credit_blocks c order) $$ H
  isplitl [H0 H1 H2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H0]; · iexact H0
    iapply (cred_add _ _).2
    isplitl [H1] <;> iassumption
  · ihave H := (show (bigSepL order fun p => (cred (tallyAt (rcvCell c (rev p.1) p.2) () N) : sProp 𝕄))
        ⊢ iprop(cred (tallyAt (rcvCell c 1 0) () N) ∗ cred (tallyAt (rcvCell c 1 1) () N) ∗ cred (tallyAt (rcvCell c 1 2) () N) ∗ cred (tallyAt (rcvCell c 1 3) () N)
          ∗ cred (tallyAt (rcvCell c 2 0) () N) ∗ cred (tallyAt (rcvCell c 2 1) () N) ∗ cred (tallyAt (rcvCell c 2 2) () N) ∗ cred (tallyAt (rcvCell c 2 3) () N)
          ∗ cred (tallyAt (rcvCell c 0 0) () N) ∗ cred (tallyAt (rcvCell c 0 1) () N) ∗ cred (tallyAt (rcvCell c 0 2) () N) ∗ cred (tallyAt (rcvCell c 0 3) () N)) from .rfl) $$ H
    unfold grid
    icases H with ⟨H10, H11, H12, H13, H20, H21, H22, H23, H00, H01, H02, H03⟩
    isplitl [H00 H01 H02 H03]
    · isplitl [H00]; · iexact H00
      isplitl [H01]; · iexact H01
      isplitl [H02] <;> iassumption
    isplitl [H10 H11 H12 H13]
    · isplitl [H10]; · iexact H10
      isplitl [H11]; · iexact H11
      isplitl [H12] <;> iassumption
    isplitl [H20]; · iexact H20
    isplitl [H21]; · iexact H21
    isplitl [H22] <;> iassumption

end Cert.KernelIdeal.Hand

end
-- ==== Proof.KernelIdeal.Pieces.lean ====
/-
The buffers of one device taken whole and in pieces: the staging slots, the outgoing and the landing blocks, and the two
halves of each argument.
-/
module

public import proofs.«01_k».proof.Proof.KernelIdeal.Tokens

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem fin2_eq (Φ : Fin 2 → sProp 𝕄) : bigSep Finset.univ Φ = iprop(Φ 0 ∗ Φ 1) := bigSep_univ_eq_bigSepL [0, 1] (by decide) (by decide) Φ

/-- A float type has a value. -/
theorem elt_nonempty (t : FTy) : Nonempty (F t) := ⟨FloatOps.ofBits t 0⟩

/-- A buffer held at some contents is held piece by piece, each at some contents. -/
theorem split_any {ℓ : Loc nD τ sig} {B : Type} [Fintype B] (I : B → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  iapply (show (ℓ ↦{fullShare} f : sProp 𝕄) ⊢ _ from (Entails.of_eq (Ring.pointsTo_blocks I hd hc f)).trans
    (bigSep_mono fun b _ => show (ℓ ↦[I b]{fullShare} f : sProp 𝕄) ⊢ iprop(∃ f : Buf (Elt F) ℓ, ℓ ↦[I b]{fullShare} f) from by
      iintro H; iexists f; iexact H))
  iexact H

/-- A slot of the staged rows of `x`. -/
theorem xs_any (c : Dev nD) (b : Fin 2) : (anyW c (xsW b) : sProp 𝕄)
    = iprop(∃ f : Buf (Elt F) ((c : Thread nD τ).loc cc0_scratch0), (c : Thread nD τ).loc cc0_scratch0 ↦[(xsR b).set]{fullShare} f) := by
  unfold anyW; rw [xsW_set]

theorem xs_split (c : Dev nD) : (iprop(∃ f : Buf (Elt F) ((c : Thread nD τ).loc cc0_scratch0), (c : Thread nD τ).loc cc0_scratch0 ↦{fullShare} f) : sProp 𝕄)
    ⊢ iprop(anyW c (xsW 0) ∗ anyW c (xsW 1)) := by
  rw [xs_any, xs_any]
  exact (split_any (ℓ := (c : Thread nD τ).loc cc0_scratch0) (fun b : Fin 2 => (xsR b).set) xs_disjoint xs_union).trans (Entails.of_eq (fin2_eq _))
theorem xs_join (c : Dev nD) : (iprop(anyW c (xsW 0) ∗ anyW c (xsW 1)) : sProp 𝕄)
    ⊢ iprop(∃ f : Buf (Elt F) ((c : Thread nD τ).loc cc0_scratch0), (c : Thread nD τ).loc cc0_scratch0 ↦{fullShare} f) := by
  rw [xs_any, xs_any]
  iintro ⟨⟨%f, H0⟩, H1⟩
  iapply (Ring.pointsTo_blocks_join_exists (ℓ := (c : Thread nD τ).loc cc0_scratch0) (fun b : Fin 2 => (xsR b).set) xs_disjoint xs_union f)
  rw [fin2_eq]
  isplitl [H0]; · iexists f; iexact H0
  iexact H1

/-- A slot of the staged columns of `w`. -/
theorem ws_any (c : Dev nD) (b : Fin 2) : (anyW c (wsW b) : sProp 𝕄)
    = iprop(∃ f : Buf (Elt F) ((c : Thread nD τ).loc cc0_scratch2), (c : Thread nD τ).loc cc0_scratch2 ↦[(wsR b).set]{fullShare} f) := by
  unfold anyW; rw [wsW_set]

theorem ws_split (c : Dev nD) : (iprop(∃ f : Buf (Elt F) ((c : Thread nD τ).loc cc0_scratch2), (c : Thread nD τ).loc cc0_scratch2 ↦{fullShare} f) : sProp 𝕄)
    ⊢ iprop(anyW c (wsW 0) ∗ anyW c (wsW 1)) := by
  rw [ws_any, ws_any]
  exact (split_any (ℓ := (c : Thread nD τ).loc cc0_scratch2) (fun b : Fin 2 => (wsR b).set) ws_disjoint ws_union).trans (Entails.of_eq (fin2_eq _))
theorem ws_join (c : Dev nD) : (iprop(anyW c (wsW 0) ∗ anyW c (wsW 1)) : sProp 𝕄)
    ⊢ iprop(∃ f : Buf (Elt F) ((c : Thread nD τ).loc cc0_scratch2), (c : Thread nD τ).loc cc0_scratch2 ↦{fullShare} f) := by
  rw [ws_any, ws_any]
  iintro ⟨⟨%f, H0⟩, H1⟩
  iapply (Ring.pointsTo_blocks_join_exists (ℓ := (c : Thread nD τ).loc cc0_scratch2) (fun b : Fin 2 => (wsR b).set) ws_disjoint ws_union f)
  rw [fin2_eq]
  isplitl [H0]; · iexists f; iexact H0
  iexact H1

/-- An outgoing block. -/
theorem yb_any (c : Dev nD) (a : Fin 3) (q : Fin 4) : (anyW c (ybW a q) : sProp 𝕄)
    = iprop(∃ f : Buf (Elt F) ((c : Thread nD τ).loc cc0_scratch3), (c : Thread nD τ).loc cc0_scratch3 ↦[(blkR a q).set]{fullShare} f) := by
  unfold anyW; rw [ybW_set]

theorem yb_grid (c : Dev nD) : (grid fun a q => anyW c (ybW a q) : sProp 𝕄)
    = bigSep Finset.univ fun p : Fin 3 × Fin 4 => iprop(∃ f : Buf (Elt F) ((c : Thread nD τ).loc cc0_scratch3), (c : Thread nD τ).loc cc0_scratch3 ↦[(blkR p.1 p.2).set]{fullShare} f) := by
  rw [← grid_eq]
  exact bigSep_congr fun p _ => yb_any c p.1 p.2

theorem yb_split (c : Dev nD) : (iprop(∃ f : Buf (Elt F) ((c : Thread nD τ).loc cc0_scratch3), (c : Thread nD τ).loc cc0_scratch3 ↦{fullShare} f) : sProp 𝕄)
    ⊢ grid fun a q => anyW c (ybW a q) := by
  rw [yb_grid]
  exact split_any (ℓ := (c : Thread nD τ).loc cc0_scratch3) (fun p : Fin 3 × Fin 4 => (blkR p.1 p.2).set) blk_disjoint blk_union
theorem yb_join (c : Dev nD) : (grid fun a q => anyW c (ybW a q) : sProp 𝕄)
    ⊢ iprop(∃ f : Buf (Elt F) ((c : Thread nD τ).loc cc0_scratch3), (c : Thread nD τ).loc cc0_scratch3 ↦{fullShare} f) := by
  rw [yb_grid]
  exact Ring.pointsTo_blocks_join_exists (ℓ := (c : Thread nD τ).loc cc0_scratch3) (fun p : Fin 3 × Fin 4 => (blkR p.1 p.2).set) blk_disjoint blk_union (fun _ => Classical.choice (elt_nonempty .bf16))

/-- A landing block. -/
theorem rb_any (c : Dev nD) (a : Fin 3) (q : Fin 4) : (anyW c (rbW a q) : sProp 𝕄)
    = iprop(∃ f : Buf (Elt F) ((c : Thread nD τ).loc cc0_scratch4), (c : Thread nD τ).loc cc0_scratch4 ↦[(blkR a q).set]{fullShare} f) := by
  unfold anyW; rw [rbW_set]

theorem rb_grid (c : Dev nD) : (grid fun a q => anyW c (rbW a q) : sProp 𝕄)
    = bigSep Finset.univ fun p : Fin 3 × Fin 4 => iprop(∃ f : Buf (Elt F) ((c : Thread nD τ).loc cc0_scratch4), (c : Thread nD τ).loc cc0_scratch4 ↦[(blkR p.1 p.2).set]{fullShare} f) := by
  rw [← grid_eq]
  exact bigSep_congr fun p _ => rb_any c p.1 p.2

theorem rb_split (c : Dev nD) : (iprop(∃ f : Buf (Elt F) ((c : Thread nD τ).loc cc0_scratch4), (c : Thread nD τ).loc cc0_scratch4 ↦{fullShare} f) : sProp 𝕄)
    ⊢ grid fun a q => anyW c (rbW a q) := by
  rw [rb_grid]
  exact split_any (ℓ := (c : Thread nD τ).loc cc0_scratch4) (fun p : Fin 3 × Fin 4 => (blkR p.1 p.2).set) blk_disjoint blk_union
theorem rb_join (c : Dev nD) : (grid fun a q => anyW c (rbW a q) : sProp 𝕄)
    ⊢ iprop(∃ f : Buf (Elt F) ((c : Thread nD τ).loc cc0_scratch4), (c : Thread nD τ).loc cc0_scratch4 ↦{fullShare} f) := by
  rw [rb_grid]
  exact Ring.pointsTo_blocks_join_exists (ℓ := (c : Thread nD τ).loc cc0_scratch4) (fun p : Fin 3 × Fin 4 => (blkR p.1 p.2).set) blk_disjoint blk_union (fun _ => Classical.choice (elt_nonempty .bf16))

/-- The two halves of `x`, one for each slot. -/
theorem x_halves (c : Dev nD) : ((c : Thread nD τ).loc main_arg0 ↦{fullShare} m ((c : Thread nD τ).loc main_arg0) : sProp 𝕄)
    ⊣⊢ iprop(xHbm m c 0 ∗ xHbm m c 1) :=
  pointsTo_share (PosShare.mem_left_op_right fullShare)

/-- The two halves of `w`, one for each slot. -/
theorem w_halves (c : Dev nD) : ((c : Thread nD τ).loc main_arg1 ↦{fullShare} m ((c : Thread nD τ).loc main_arg1) : sProp 𝕄)
    ⊣⊢ iprop(wHbm m c 0 ∗ wHbm m c 1) :=
  pointsTo_share (PosShare.mem_left_op_right fullShare)

/-- The landing slabs are the landing blocks. -/
theorem slabs_grid (c : Dev nD) : (grid fun a q => anyW c (rbW a q) : sProp 𝕄) = iprop(slabPts c 0 ∗ slabPts c 1 ∗ slabPts c 2) := rfl

end Cert.KernelIdeal.Hand

end
-- ==== Proof.KernelIdeal.Launch.lean ====
/-
The run of the whole program on the mesh: what a device holds when the kernel's one point begins, what it holds when it
ends, and the state every execution ends in.
-/
module

public import proofs.«01_k».proof.Proof.KernelIdeal.Pieces
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the point -/

/-- The two arguments, whole and as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- What the launch hands device `c`, apart from the scratch buffers. -/
def entry (c : Dev nD) : sProp 𝕄 :=
  iprop(G' m c ∗ (cred (tallyAt (barCell c) () 3) ∗ grid (fun a q => cred (tallyAt (rcvCell c a q) () N))) ∗ levAts L lv ∗ args m c)

/-- The scratch buffers, each whole at some contents. -/
abbrev scratch (c : Dev nD) : sProp 𝕄 := Pipeline.scopedRest cfg0.spec c

def Φ₀ (c : Dev nD) : sProp 𝕄 := iprop(entry m c ∗ scratch c)
/-- At the end the arguments are back, the semaphores at zero, and the scratch buffers whole. -/
def Φ₁ (c : Dev nD) : sProp 𝕄 := iprop((unscopedSems0 c ∗ args m c) ∗ Pipeline.ownSems0 osem c ∗ scratch c)

/-- The first is what the body begins with; -/
theorem assemble (c : Dev nD) : iprop(Φ₀ m c ∗ Owes c (O₀ c) ∗ ∃ f : Buf (Elt F) (oM.view.loc (c : Thread nD τ)), oM.view.loc (c : Thread nD τ) ↦{fullShare} f)
    ⊢ iprop(∃ K, records m K ∗ levAts L lv ∗ start m c) := by
  unfold Φ₀ entry G' args scratch
  rw [scopedRest0_eq]
  iintro ⟨⟨⟨⟨%K, #HR, Hat, Hpay, HL⟩, ⟨HcB, HcV⟩, #Lv, Hx, Hw⟩, Hxs, ⟨%fb, Hxb⟩, Hws, Hyb, Hrb⟩, HO, ⟨%f, Hout⟩⟩
  iexists K
  isplitr; · iexact HR
  isplitr; · iexact Lv
  ihave Hat := (Entails.of_eq (cells_eq fun k : CK => (atPos ER (kcell (c, k)) 0 ∅ 0 : sProp 𝕄))) $$ Hat
  icases Hat with ⟨HaB, HaS, HaV⟩
  ihave Hpay := (show (payToks c : sProp 𝕄) ⊢ iprop((dutyTok ER (barCell (peer c 0)) 0 0 ∗ dutyTok ER (barCell (peer c 1)) 0 1 ∗ dutyTok ER (barCell (peer c 2)) 0 2) ∗ grid (fun a q => sendTok c a q)) from by
    unfold payToks; rw [fin3_eq]) $$ Hpay
  icases Hpay with ⟨⟨T0, T1, T2⟩, Ht⟩
  ihave HL := (show (locals c : sProp 𝕄) ⊢ iprop(semVal ((c : Thread nD τ), .dma (xS 0)) 0 ∗ semVal ((c : Thread nD τ), .dma (xS 1)) 0
    ∗ semVal ((c : Thread nD τ), .dma (wS 0)) 0 ∗ semVal ((c : Thread nD τ), .dma (wS 1)) 0) from by unfold locals; exact .rfl) $$ HL
  icases HL with ⟨L0, L1, L2, L3⟩
  ihave Hx := (x_halves m c).1 $$ Hx
  icases Hx with ⟨X0, X1⟩
  ihave Hw := (w_halves m c).1 $$ Hw
  icases Hw with ⟨W0, W1⟩
  ihave Hxs := (xs_split c) $$ Hxs
  icases Hxs with ⟨A0, A1⟩
  ihave Hws := (ws_split c) $$ Hws
  icases Hws with ⟨B0, B1⟩
  ihave Hyb := (yb_split c) $$ Hyb
  ihave Hrb := (show _ ⊢ iprop(slabPts (F := F) c 0 ∗ slabPts c 1 ∗ slabPts c 2) from (rb_split c).trans (Entails.of_eq (slabs_grid c))) $$ Hrb
  icases Hrb with ⟨S0, S1, S2⟩
  unfold start xIdle wIdle
  isplitl [A0 X0 L0]
  · isplitl [A0]; · iexact A0
    isplitl [X0] <;> iassumption
  isplitl [A1 X1 L1]
  · isplitl [A1]; · iexact A1
    isplitl [X1] <;> iassumption
  isplitl [B0 W0 L2]
  · isplitl [B0]; · iexact B0
    isplitl [W0] <;> iassumption
  isplitl [B1 W1 L3]
  · isplitl [B1]; · iexact B1
    isplitl [W1] <;> iassumption
  isplitl [Hxb]
  · unfold XB; iexists fb
    isplitr; · ipureintro; exact fun q hq => absurd hq (Nat.not_lt_zero _)
    iexact Hxb
  isplitl [Hout]
  · unfold Out; iexists f
    isplitr; · ipureintro; exact fun i hi => hi.elim
    iexact Hout
  isplitl [S0]; · iexact S0
  isplitl [S1]; · iexact S1
  isplitl [S2]; · iexact S2
  isplitl [T0]; · iexact T0
  isplitl [T1]; · iexact T1
  isplitl [T2]; · iexact T2
  isplitl [HaB]; · iexact HaB
  isplitl [HcB]; · iexact HcB
  isplitl [Hyb]; · iexact Hyb
  isplitl [Ht]; · iexact Ht
  isplitl [HaV HcV]
  · iapply (show iprop(grid (fun a q => atPos ER (rcvCell c a q) 0 ∅ 0) ∗ grid (fun a q => cred (tallyAt (rcvCell c a q) () N)))
      ⊢ (grid (fun a q => waitTok (rcvCell c a q)) : sProp 𝕄) from by unfold waitTok; exact Entails.of_eq (grid_sep _ _).symm)
    isplitl [HaV] <;> iassumption
  isplitl [HaS]; · iexact HaS
  iexact HO

/-- and what the body ends with is the second, with the output filled. -/
theorem disassemble (c : Dev nD) : finished m c
    ⊢ iprop(Φ₁ m c ∗ Owes c 0 ∗ (oM.view.loc (c : Thread nD τ) ↦{fullShare} outAt m c)) := by
  unfold finished Φ₁ args scratch xIdle wIdle XB sndPay
  rw [scopedRest0_eq, ownSems0_eq, unscopedSems0_eq]
  unfold locals
  iintro ⟨⟨A0, X0, L0⟩, ⟨A1, X1, L1⟩, ⟨B0, W0, L2⟩, ⟨B1, W1, L3⟩, ⟨%fb, -, Hxb⟩, Hout, S0, S1, S2, HB, Hyb, HzS, HzV, HO⟩
  isplitr [HO Hout]
  · isplitl [HB X0 X1 W0 W1]
    · isplitl [HB]; · iexact HB
      isplitl [X0 X1]
      · iapply (x_halves m c).2
        isplitl [X0] <;> iassumption
      · iapply (w_halves m c).2
        isplitl [W0] <;> iassumption
    isplitl [L0 L1 L2 L3 HzS HzV]
    · isplitl [L0 L1 L2 L3]
      · isplitl [L0]; · iexact L0
        isplitl [L1]; · iexact L1
        isplitl [L2] <;> iassumption
      isplitl [HzS] <;> iassumption
    isplitl [A0 A1]
    · iapply (xs_join c); isplitl [A0] <;> iassumption
    isplitl [Hxb]
    · iexists fb; iexact Hxb
    isplitl [B0 B1]
    · iapply (ws_join c); isplitl [B0] <;> iassumption
    isplitl [Hyb]
    · iapply (yb_join c); iexact Hyb
    iapply (rb_join c)
    iapply (Entails.of_eq (slabs_grid c).symm)
    isplitl [S0]; · iexact S0
    isplitl [S1] <;> iassumption
  isplitl [HO] <;> iassumption

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer of the output, at contents `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t0_0.castSucc ∗ ∃ d, stg c ((dats m ρ 0 c).before (0 : Fin 1) t0_0 d))
def bodyPost (c : Dev nD) : sProp 𝕄 :=
  iprop(Φ₁ m c ∗ (dats m ρ 0 c).owesAt () t0_0.succ ∗ stg c (outAt m c))

set_option maxRecDepth 16384 in
/-- The body meets the pipeline's obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) xM (Memref.isWhole_whole _) wM (Memref.isWhole_whole _) oM (Memref.isWhole_whole _) xsM (Memref.isWhole_whole _)
    xbM (Memref.isWhole_whole _) wsM (Memref.isWhole_whole _) ybM (Memref.isWhole_whole _) rbM (Memref.isWhole_whole _)
    cc0_scratch5 cc0_scratch6 cc0_scratch7 cc0_scratch8) (fun _ => bodyPost m ρ c)
  unfold bodyPre Dat.owesAt Pipeline.owesWithin
  iintro ⟨HΦ, ⟨%W, %hW, HO⟩, ⟨%d, %g, %hg, Hout⟩⟩
  ihave H := (assemble m c) $$ [HΦ HO Hout]
  · isplitl [HΦ]; · iexact HΦ
    isplitl [HO]
    · unfold Owes; iexists W; iexact HO
    iexists g; iexact Hout
  icases H with ⟨%K, #HR, #Lv, Hst⟩
  iapply (body m K _ _ _ _ _ _ _ _ c) $$ [Hst]
  · isplitr; · iexact HR
    isplitr; · iexact Lv
    iexact Hst
  iintro HF
  ihave HF := (disassemble m c) $$ HF
  icases HF with ⟨HΦ, HO, Hout⟩
  unfold bodyPost Dat.owesAt Pipeline.owesWithin Owes
  icases HO with ⟨%W', HO⟩
  isplitl [HΦ]; · iexact HΦ
  isplitl [HO]
  · iexists W'
    isplitr; · ipureintro; exact fun _ _ => Or.inl trivial
    iexact HO
  iexists _; isplitr; · (ipureintro; rfl)
  iexact Hout

/-! ## The launch -/

theorem share_eq (c : Dev nD) (w : Fin cfg0.W) : (dats m ρ 0 c).share w = fullShare := by unfold Dat.share; split <;> rfl

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  rw [Pipeline.unscopedRestP_none, unscopedRest0_eq]
  iintro ⟨Ha, Hlev, Hcr, -, HG⟩
  ihave Hc := (credits (F := F) c) $$ Hcr
  imodintro
  unfold entry args
  isplitl
  · isplitl [HG]; · iexact HG
    isplitl [Hc]; · iexact Hc
    isplitl [Hlev]; · iexact Hlev
    iexact Ha
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl]
  unfold Φ₁
  exact .rfl

theorem kind_stage : kind (.dma (win0_0.sem 0)) = none := kind_of_ne (by decide +kernel)

theorem waits (c : Dev nD) : (levAts L lv : sProp 𝕄) ⊢ Pipeline.cellsWaits cfgs (dats m ρ) () 0 c :=
  Pipeline.cellsWaits_intro cfgs (dats m ρ) () 0 c fun w s t =>
    mayWait_of_above c _ (n := 0) (by fin_cases w; fin_cases s; exact congrArg lvOf kind_stage) (by
      rcases t with ⟨_ | _, ht⟩
      · exact above_O₀ c
      · exact above_zero 1)

/-! ## The run -/

/-- What every execution ends in: each device's result at what was computed, and its arguments as they were. -/
def QC : PUnit × MemSt nD τ sig (Elt F) → Prop := fun r => ∀ c : Dev nD,
  r.2.mem ((cfg0.win (0 : Fin 1)).arr.view.loc (c : Thread nD τ)) = (dats m ρ 0 c).arrAt (0 : Fin 1) cfg0.N
  ∧ r.2.mem ((c : Thread nD τ).loc main_arg0) = m ((c : Thread nD τ).loc main_arg0)
  ∧ r.2.mem ((c : Thread nD τ).loc main_arg1) = m ((c : Thread nD τ).loc main_arg1)

/-- What is read off a device's exit. -/
def exitFact (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ s.mem ((c : Thread nD τ).loc main_arg1) = m ((c : Thread nD τ).loc main_arg1)

theorem exit_read (c : Dev nD) (s' : Phys nD τ sig (Elt F)) :
    (iprop((unscopedSems0 c ∗ args m c) ∗ emp ∗ SI s') : sProp 𝕄) ⊢ |={Set.univ}=> iprop(⌜exitFact m c s'.mem⌝ ∗ SI s') := by
  unfold args exitFact
  iintro ⟨⟨Hu, Hx, Hw⟩, -, HSI⟩
  imod (Pipeline.unscopedSems0_read (X := unscopedSems0 c) (c := c) fupd_intro s') $$ [Hu HSI] with ⟨%hs, HSI⟩
  · isplitl [Hu] <;> iassumption
  icombine HSI Hx gives %hx
  icombine HSI Hw gives %hw
  imodintro
  isplitr
  · ipureintro
    exact ⟨hs, Buf.eq_of_forall_mem_univ hx, Buf.eq_of_forall_mem_univ hw⟩
  iexact HSI

set_option maxRecDepth 8000 in
/-- On the mesh of four devices, from any memory with zero counters, every weakly fair execution terminates without a fault;
    every final state has each device's result at what the kernel computes, its arguments unchanged, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (show BI.own ((embR : Emb _ (MT nD τ sig Unit (Elt F) ℕ UU ℕ)) (initOf protoCells protoToks, 1)) ⊢ (|==> bigSep Finset.univ (G m) : sProp 𝕄) from fund m) $$ HX with HG
      imodintro
      isplitl [HP] <;> iassumption)
    (hglob := glob m)
    (hA := fun _ _ => rfl) (hpf := fun _ k => k.elim0)
    (X := entry m) (Y := fun c => iprop(unscopedSems0 c ∗ args m c)) (Z := fun _ => iprop(emp))
    (hX := entry_intro m ρ) (hin := phi0_intro m ρ) (hout := phi1_exit m ρ)
    (QY := exitFact m) (hY := exit_read m)
    (hQ := fun _ h hs => ⟨fun c => ⟨(h c).1 0, (h c).2.2.2⟩, sem_eq_zero hs fun c => (h c).2.2.1⟩)

end Cert.KernelIdeal.Hand

end
-- ==== Proof.KernelIdeal.Result.lean ====
/-
The output array after the run: its one block is the whole array, so it holds what the kernel's one point left in it.
-/
module

public import proofs.«01_k».proof.Proof.KernelIdeal.Launch
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The block of the one point is read at its own indices. -/
theorem blk_emb_val (t : Fin cfg0.N) (y : ((cfg0.win (0 : Fin 1)).xblock (cfg0.grid.coords t)).Idx) (a : Fin 2) :
    ((win0_0.rect t).emb y a : ℕ) = y a :=
  Pipeline.Window.rect_emb_val_of_index_zero win0_0 t a rfl y

/-- What the one point writes back is the result read through its block. -/
theorem flushed_eq (c : Dev nD) (t : Fin cfg0.N) :
    (dats m ρ 0 c).flushed (0 : Fin 1) t = ((cfg0.win (0 : Fin 1)).blk t).view.read (Elt F) (outAt m c) := by
  funext y
  rw [View.read_apply]
  show outAt m c _ = outAt m c _
  exact congrArg (outAt m c) (funext fun a => Fin.ext (blk_emb_val t y a).symm)

/-- That block is the whole array. -/
theorem blk_cover (i : S4096x512.Idx) :
    ∃ t : Fin cfg0.N, (cfg0.win (0 : Fin 1)).flush t = true ∧ i ∈ ((cfg0.win (0 : Fin 1)).blk t).view.set := by
  refine ⟨t0_0, flush0_0 _, ?_⟩
  show i ∈ ((View.whole main_v1).slice (win0_0.rect t0_0)).set
  rw [View.set_slice_whole, Rect.mem_set_unit]
  have h0 : (i 0 : ℕ) < 4096 := (i 0).isLt
  have h1 : (i 1 : ℕ) < 512 := (i 1).isLt
  intro a
  fin_cases a
  · exact ⟨Nat.zero_le _, by show (i 0 : ℕ) < 0 + 4096; omega⟩
  · exact ⟨Nat.zero_le _, by show (i 1 : ℕ) < 0 + 512; omega⟩

/-- The output array of device `c` ends holding the result of device `c`. -/
theorem arrAt_eq (c : Dev nD) : (dats m ρ 0 c).arrAt (0 : Fin 1) cfg0.N = outAt m c :=
  (dats m ρ 0 c).arrAt_eq_of_cover (0 : Fin 1) (outAt m c) (fun t _ => flushed_eq m ρ c t) blk_cover

/-- From any memory with zero counters every execution ends with each device's result in its output array, its arguments
as they were and every counter zero. -/
theorem run_result : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c).1.trans (arrAt_eq m ρ c), (h.1 c).2⟩, h.2⟩) (run_main m ρ)

end Cert.KernelIdeal.Hand

end
-- ==== Proof.KernelIdeal.Value.lean ====
/-
The result of a device, in exact arithmetic: the device's columns of the product of the whole `x` by `w`, each element
divided by one plus the exponential of its negation.
-/
module

public import proofs.«01_k».proof.Proof.KernelIdeal.OutVal
public import Idealize.ShloMosaic.Lib.MatmulPlain
public import Idealize.ShloMosaic.Lib.IdealHost
public import Idealize.ShloMosaic.Lib.Layout

@[expose] public section

noncomputable section

namespace Cert.KernelIdeal.Hand

open Cert.KernelIdeal Cert.KernelIdeal.Gen
open Idealize.ShloMosaic Idealize.ShloMosaic.TcCoe
open Idealize.ShloMosaic.ValueIdx (ix2 eq_ix2)
open scoped BigOperators

/-! ## The mathematics -/

/-- An element divided by one plus the exponential of its negation. -/
def siluOf (y : EReal) : EReal := Ideal.div y (1 + Ideal.exp (-y))

/-- Row `i` of `X` by column `j` of `W`. -/
def dotOf (X : FVec Ideal ⟨2, ![4096, 4096]⟩ .f32) (W : FVec Ideal ⟨2, ![4096, 2048]⟩ .f32) (i : Fin 4096) (j : Fin 2048) : EReal :=
  ∑ k : Fin 4096, X (ix2 i k) * W (ix2 k j)

/-- The whole result. -/
def wholeOf (X : FVec Ideal ⟨2, ![4096, 4096]⟩ .f32) (W : FVec Ideal ⟨2, ![4096, 2048]⟩ .f32) : FVec Ideal ⟨2, ![4096, 2048]⟩ .f32 :=
  fun i => siluOf (dotOf X W (i 0) (i 1))

/-- The exponential is never negative, -/
theorem exp_nonneg (y : EReal) : 0 ≤ Ideal.exp y := by
  induction y using EReal.rec with
  | bot => exact le_refl _
  | top => exact le_top
  | coe r => exact EReal.coe_nonneg.2 (Real.exp_pos r).le

/-- so the divisor is never zero, -/
theorem one_add_exp_ne_zero (y : EReal) : 1 + Ideal.exp y ≠ 0 := by
  have h : (1 : EReal) ≤ 1 + Ideal.exp y := le_add_of_nonneg_right (exp_nonneg y)
  intro e
  rw [e] at h
  exact absurd h (by simp)

/-- and an element times its logistic is that quotient. -/
theorem mul_logistic (y : EReal) : y * Ideal.logistic y = siluOf y := by
  unfold Ideal.logistic siluOf
  exact Ideal.mul_one_div (one_add_exp_ne_zero _)

/-! ## The blocks -/

variable (m : (ℓ : Loc nD τ sig) → Buf (Elt Ideal) ℓ)

theorem xrows_apply (c : Dev nD) (q : Fin 4) (r : Fin 256) (k : Fin 4096) :
    xrows m c q (ix2 r k) = m ((c : Thread nD τ).loc main_arg0) (ix2 ⟨256 * q.val + r.val, by omega⟩ k : S1024x4096.Idx) := by
  show m ((c : Thread nD τ).loc main_arg0) _ = m ((c : Thread nD τ).loc main_arg0) _
  refine congrArg (m ((c : Thread nD τ).loc main_arg0)) (funext fun a => Fin.ext ?_)
  match a with
  | ⟨0, _⟩ => show 256 * q.val + 1 * r.val = 256 * q.val + r.val; omega
  | ⟨1, _⟩ => show 0 + 1 * k.val = k.val; omega

theorem wcols_apply (c t : Dev nD) (k : Fin 4096) (j : Fin 512) :
    wcols m c t (ix2 k j) = m ((c : Thread nD τ).loc main_arg1) (ix2 k ⟨512 * t.val + j.val, by have h : t.val < 4 := t.isLt; omega⟩ : S4096x2048.Idx) := by
  show m ((c : Thread nD τ).loc main_arg1) _ = m ((c : Thread nD τ).loc main_arg1) _
  refine congrArg (m ((c : Thread nD τ).loc main_arg1)) (funext fun a => Fin.ext ?_)
  match a with
  | ⟨0, _⟩ => show 0 + 1 * k.val = k.val; omega
  | ⟨1, _⟩ => show 512 * t.val + 1 * j.val = 512 * t.val + j.val; omega

/-- The product of a block of rows by a block of columns, at an element. -/
theorem prod_apply (x : FVec Ideal S256x4096 .bf16) (w : FVec Ideal S4096x512 .bf16) (r : Fin 256) (j : Fin 512) :
    prod x w (ix2 r j) = ∑ k : Fin 4096, (show EReal from x (ix2 r k)) * (show EReal from w (ix2 k j)) := by
  refine (Ideal.matmul_plain_apply (M := 256) (K := 4096) (N := 512) none x w (constant S256x512 .f32 0x00000000#32) r j).trans ?_
  show Ideal.ofBits .f32 0x00000000#32 + _ = _
  rw [Ideal.ofBits_zero_f32, zero_add]

/-- The block device `o` computes for device `t` from quarter `q` of its rows is that block of the whole result. -/
theorem yv_apply (X : FVec Ideal ⟨2, ![4096, 4096]⟩ .f32) (W : FVec Ideal ⟨2, ![4096, 2048]⟩ .f32) (o t : Dev nD)
    (hx : m ((o : Thread nD τ).loc main_arg0) = Layout.block ⟨2, ![1024, 4096]⟩ ⟨2, ![4096, 4096]⟩ 0 4 o X)
    (hw : m ((o : Thread nD τ).loc main_arg1) = W) (q : Fin 4) (r : Fin 256) (j : Fin 512) :
    yv m o t q (ix2 r j) = siluOf (dotOf X W ⟨1024 * o.val + (256 * q.val + r.val), by have h : o.val < 4 := o.isLt; omega⟩
      ⟨512 * t.val + j.val, by have h : t.val < 4 := t.isLt; omega⟩) := by
  show (prod (xbv m o q) (wbv m o t) (ix2 r j) : EReal) * Ideal.logistic (prod (xbv m o q) (wbv m o t) (ix2 r j)) = _
  rw [mul_logistic, prod_apply]
  refine congrArg siluOf (Finset.sum_congr rfl fun k _ => ?_)
  show (xrows m o q (ix2 r k) : EReal) * (wcols m o t (ix2 k j) : EReal) = _
  rw [xrows_apply, wcols_apply, hx, hw]
  refine congrArg (· * _) (congrArg X (funext fun a => Fin.ext ?_))
  match a with
  | ⟨0, _⟩ => show o.val * 1024 + (256 * q.val + r.val) = 1024 * o.val + (256 * q.val + r.val); omega
  | ⟨1, _⟩ => rfl

/-- The four blocks of rows one device computes for another, stacked. -/
theorem stack_yv (X : FVec Ideal ⟨2, ![4096, 4096]⟩ .f32) (W : FVec Ideal ⟨2, ![4096, 2048]⟩ .f32) (o t : Dev nD)
    (hx : m ((o : Thread nD τ).loc main_arg0) = Layout.block ⟨2, ![1024, 4096]⟩ ⟨2, ![4096, 4096]⟩ 0 4 o X)
    (hw : m ((o : Thread nD τ).loc main_arg1) = W) (p : Fin 1024) (j : Fin 512) :
    stack (yv m o t) (ix2 p j) = siluOf (dotOf X W ⟨1024 * o.val + p.val, by have h : o.val < 4 := o.isLt; omega⟩
      ⟨512 * t.val + j.val, by have h : t.val < 4 := t.isLt; omega⟩) := by
  refine (yv_apply m X W o t hx hw ⟨p.val / 256, by omega⟩ ⟨p.val % 256, Nat.mod_lt _ (by omega)⟩ j).trans ?_
  refine congrArg (fun i => siluOf (dotOf X W i _)) (Fin.ext ?_)
  show 1024 * o.val + (256 * (p.val / 256) + p.val % 256) = 1024 * o.val + p.val
  omega

/-- The result of device `c` is block `c` of the columns of the whole result. -/
theorem outAt_eq_block (X : FVec Ideal ⟨2, ![4096, 4096]⟩ .f32) (W : FVec Ideal ⟨2, ![4096, 2048]⟩ .f32)
    (hx : ∀ o : Dev nD, m ((o : Thread nD τ).loc main_arg0) = Layout.block ⟨2, ![1024, 4096]⟩ ⟨2, ![4096, 4096]⟩ 0 4 o X)
    (hw : ∀ o : Dev nD, m ((o : Thread nD τ).loc main_arg1) = W) (c : Dev nD) :
    outAt m c = Layout.block ⟨2, ![4096, 512]⟩ ⟨2, ![4096, 2048]⟩ 1 4 c (wholeOf X W) := by
  funext i
  have h0 : (i 0).val < 4096 := (i 0).isLt
  set o : Dev nD := ⟨(i 0).val / 1024, by show _ < 4; omega⟩ with ho
  have hb : outBlk m c o = stack (yv m o c) := by
    unfold outBlk
    split
    · next h => rw [h]
    · rfl
  show outBlk m c o (ix2 ⟨(i 0).val % 1024, Nat.mod_lt _ (by omega)⟩ (i 1)) = wholeOf X W _
  rw [hb]
  refine (stack_yv m X W o c (hx o) (hw o) _ (i 1)).trans ?_
  unfold wholeOf
  refine congrArg siluOf (congrArg₂ (dotOf X W) (Fin.ext ?_) (Fin.ext ?_))
  · show 1024 * ((i 0).val / 1024) + (i 0).val % 1024 = (i 0).val
    omega
  · show 512 * c.val + (i 1).val = c.val * 512 + (i 1).val
    omega

end Cert.KernelIdeal.Hand

end
-- ==== Proof.Reference.lean ====
/-
What the reference computes, in exact arithmetic, is the whole result the devices' blocks are cut from.
-/
module

public import proofs.«01_k».proof.Proof.KernelIdeal.Value
public import proofs.«01_k».proof.Proof.Gen.ReferenceIdeal.Run
public import Idealize.ShloMosaic.Lib.StackMember

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.ValueIdx (ix2 eq_ix2)
open Cert.KernelIdeal.Hand (siluOf dotOf wholeOf)

/-- The product of the whole arguments, at an element. -/
theorem dot_apply (X : FVec Ideal S4096x4096 .f32) (W : FVec Ideal S4096x2048 .f32) (i : S4096x2048.Idx) :
    Host.dotGeneral dot_S4096x4096_S4096x2048_S4096x2048_1_0_0_1_n_n none X W i = dotOf X W (i 0) (i 1) := by
  rw [eq_ix2 i]
  exact StackMember.dotGeneral_plain_apply (m := 4096) (n := 2048) (k := 4096) none X W (i 0) (i 1)

/-- A scalar constant, repeated, is that constant at every element. -/
theorem bcast_const_apply (b : BitVec 32) (i : S4096x2048.Idx) :
    broadcastInDim S4096x2048 ![] bcast_S_S4096x2048 (constant (F := Ideal) S_ .f32 b) i = Ideal.ofBits .f32 b :=
  ValueIdx.broadcastInDim_scalar_apply bcast_S_S4096x2048 _ i

/-- The reference's term is the whole result. -/
theorem term_eq (X : FVec Ideal S4096x4096 .f32) (W : FVec Ideal S4096x2048 .f32) :
    Host.divf (Host.dotGeneral dot_S4096x4096_S4096x2048_S4096x2048_1_0_0_1_n_n none X W)
      (addf (broadcastInDim S4096x2048 ![] bcast_S_S4096x2048 (constant S_ .f32 0x3F800000#32))
        (Host.exp (Host.negf (Host.dotGeneral dot_S4096x4096_S4096x2048_S4096x2048_1_0_0_1_n_n none X W)))) = wholeOf X W := by
  funext i
  show Ideal.div (Host.dotGeneral dot_S4096x4096_S4096x2048_S4096x2048_1_0_0_1_n_n none X W i)
    ((broadcastInDim S4096x2048 ![] bcast_S_S4096x2048 (constant (F := Ideal) S_ .f32 0x3F800000#32) i : EReal)
      + Ideal.exp (-(show EReal from Host.dotGeneral dot_S4096x4096_S4096x2048_S4096x2048_1_0_0_1_n_n none X W i))) = _
  rw [bcast_const_apply, Ideal.ofBits_one_f32, dot_apply]
  rfl

/-- From any memory with zero counters every execution of the reference ends with the whole result in its result array,
the arguments as they were and every counter zero. -/
theorem run_result (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v5) = wholeOf (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c).1.trans (term_eq _ _), (h c).2⟩, sem_eq_zero_of_no_sems (by decide) r.2⟩)
    (Cert.ReferenceIdeal.Value.run m ρ)

end Cert.ReferenceIdeal.Hand

end
-- ==== Proof.Clipped.lean ====
/-
The reference whose exponent is clipped to [-60, 60]. When the precondition holds on every device, no element of the
product leaves that interval: the clip changes nothing and the result is the whole result the devices' blocks are cut from.
-/
module

public import proofs.«01_k».proof.Proof.KernelIdeal.Value
public import proofs.«01_k».proof.Proof.Gen.ClippedIdeal.Run
public import proofs.«01_k».proof.Proof.Gen.Pre_within_clip_KernelIdeal
public import Idealize.ShloMosaic.Lib.StackMember
public import Idealize.ShloMosaic.Lib.ReduceAll

@[expose] public section

noncomputable section

namespace Cert.ClippedIdeal.Hand

open Cert.ClippedIdeal Cert.ClippedIdeal.Gen
open Idealize.ShloMosaic Idealize.ShloMosaic.TcCoe Idealize.SL.Sem
open Idealize.ShloMosaic.ValueIdx (ix2 eq_ix2)
open Cert.KernelIdeal.Hand (siluOf dotOf wholeOf)
open scoped BigOperators

/-! ## The two bounds -/

theorem ofBits_60 : Ideal.ofBits .f32 0x42700000#32 = ((60 : ℝ) : EReal) := by
  simp [Ideal.ofBits, Ideal.ieee, -EReal.coe_mul]; norm_num

theorem ofBits_neg_60 : Ideal.ofBits .f32 0xC2700000#32 = ((-60 : ℝ) : EReal) := by
  simp [Ideal.ofBits, Ideal.ieee, -EReal.coe_mul, -EReal.coe_neg]; norm_num

/-- An element whose magnitude is at most 60 is its own clip. -/
theorem clip_eq (y : EReal) (h : max y (-y) ≤ ((60 : ℝ) : EReal)) :
    min ((60 : ℝ) : EReal) (max ((-60 : ℝ) : EReal) y) = y := by
  have h1 : y ≤ ((60 : ℝ) : EReal) := (le_max_left _ _).trans h
  have h2 : ((-60 : ℝ) : EReal) ≤ y := by
    have h3 := EReal.neg_le_neg_iff.2 ((le_max_right y (-y)).trans h)
    rw [neg_neg] at h3
    rw [EReal.coe_neg]
    exact h3
  rw [max_eq_right h2, min_eq_right h1]

/-! ## The reference's term -/

/-- The product of the whole arguments, at an element. -/
theorem dot_apply (X : FVec Ideal S4096x4096 .f32) (W : FVec Ideal S4096x2048 .f32) (i : S4096x2048.Idx) :
    Host.dotGeneral dot_S4096x4096_S4096x2048_S4096x2048_1_0_0_1_n_n none X W i = dotOf X W (i 0) (i 1) := by
  rw [eq_ix2 i]
  exact StackMember.dotGeneral_plain_apply (m := 4096) (n := 2048) (k := 4096) none X W (i 0) (i 1)

/-- A scalar constant, repeated, is that constant at every element. -/
theorem bcast_const_apply (b : BitVec 32) (i : S4096x2048.Idx) :
    broadcastInDim S4096x2048 ![] bcast_S_S4096x2048 (constant (F := Ideal) S_ .f32 b) i = Ideal.ofBits .f32 b :=
  ValueIdx.broadcastInDim_scalar_apply bcast_S_S4096x2048 _ i

/-- The reference's term is the whole result where no element of the product has a magnitude over 60. -/
theorem term_eq (X : FVec Ideal S4096x4096 .f32) (W : FVec Ideal S4096x2048 .f32)
    (hb : ∀ i j, max (dotOf X W i j) (-dotOf X W i j) ≤ ((60 : ℝ) : EReal)) :
    Host.divf (Host.dotGeneral dot_S4096x4096_S4096x2048_S4096x2048_1_0_0_1_n_n none X W)
      (addf (broadcastInDim S4096x2048 ![] bcast_S_S4096x2048 (constant S_ .f32 0x3F800000#32))
        (Host.exp (Host.negf (minimumf (broadcastInDim S4096x2048 ![] bcast_S_S4096x2048 (id (constant S_ .f32 0x42700000#32)))
          (maximumf (broadcastInDim S4096x2048 ![] bcast_S_S4096x2048 (id (constant S_ .f32 0xC2700000#32)))
            (Host.dotGeneral dot_S4096x4096_S4096x2048_S4096x2048_1_0_0_1_n_n none X W)))))) = wholeOf X W := by
  funext i
  show Ideal.div (Host.dotGeneral dot_S4096x4096_S4096x2048_S4096x2048_1_0_0_1_n_n none X W i)
    ((broadcastInDim S4096x2048 ![] bcast_S_S4096x2048 (constant (F := Ideal) S_ .f32 0x3F800000#32) i : EReal)
      + Ideal.exp (-(min (broadcastInDim S4096x2048 ![] bcast_S_S4096x2048 (constant (F := Ideal) S_ .f32 0x42700000#32) i : EReal)
          (max (broadcastInDim S4096x2048 ![] bcast_S_S4096x2048 (constant (F := Ideal) S_ .f32 0xC2700000#32) i : EReal)
            (show EReal from Host.dotGeneral dot_S4096x4096_S4096x2048_S4096x2048_1_0_0_1_n_n none X W i))))) = _
  rw [bcast_const_apply, bcast_const_apply, bcast_const_apply, Ideal.ofBits_one_f32, ofBits_60, ofBits_neg_60, dot_apply]
  rw [clip_eq _ (hb (i 0) (i 1))]
  rfl

/-- From any memory with zero counters, every execution of the clipped reference ends with its arguments as they were and
every counter zero; -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (Cert.ClippedIdeal.Value.run m ρ)

/-- and with the whole result in its result array where no element of the product has a magnitude over 60. -/
theorem run_result (m : (ℓ : Loc nD τ sig) → Buf (Elt Ideal) ℓ) (ρ : Dev nD → PrngReg)
    (hb : ∀ (c : Dev nD) i j, max (dotOf (m ((c.tc : Thread nD τ).loc main_arg0)) (m ((c.tc : Thread nD τ).loc main_arg1)) i j)
      (-dotOf (m ((c.tc : Thread nD τ).loc main_arg0)) (m ((c.tc : Thread nD τ).loc main_arg1)) i j) ≤ ((60 : ℝ) : EReal)) :
    θ_run defs (onTc (τ := τ) (main (F := Ideal))) ⟨m, fun _ => 0, ρ⟩ fun r =>
      ∀ c : Dev nD, r.2.mem ((c.tc : Thread nD τ).loc main_v6) = wholeOf (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun r h c => ⟨(h c).1.trans (term_eq _ _ (hb c)), (h c).2⟩) (Cert.ClippedIdeal.Value.run m ρ)

/-! ## The precondition -/

instance : Subsingleton Cert.Pre_within_clip_KernelIdeal.S_.Idx := ⟨fun a b => funext fun i => i.elim0⟩

/-- The precondition on one device bounds every element of the product of its rows by `w`. -/
theorem pre_row (x : FVec Ideal Cert.Pre_within_clip_KernelIdeal.S1024x4096 .f32) (w : FVec Ideal Cert.Pre_within_clip_KernelIdeal.S4096x2048 .f32)
    (h : Cert.Pre_within_clip_KernelIdeal.fn (F := Ideal) x w = fun _ => 1#1) (p : Fin 1024) (j : Fin 2048) :
    max (∑ k : Fin 4096, (show EReal from x (ix2 p k)) * (show EReal from w (ix2 k j)))
      (-∑ k : Fin 4096, (show EReal from x (ix2 p k)) * (show EReal from w (ix2 k j))) ≤ ((60 : ℝ) : EReal) := by
  have e := Host.reduce_andi_all _ _ _ _ ValueIdx.ix0 (congrFun h ValueIdx.ix0) (ix2 p j)
  have hd := StackMember.dotGeneral_plain_apply (m := 1024) (n := 2048) (k := 4096) (φ₁ := .f32) (φ₂ := .f32) none x w p j
  have e' : BitVec.ofBool (decide (max (Host.dotGeneral (F := Ideal) (DotDims.plain 1024 4096 2048) none x w (ix2 p j) : EReal)
      (-(show EReal from Host.dotGeneral (F := Ideal) (DotDims.plain 1024 4096 2048) none x w (ix2 p j)))
        ≤ Ideal.ofBits .f32 0x42700000#32)) = 1#1 := e
  rw [hd, ofBits_60] at e'
  by_contra hn
  rw [decide_eq_false hn] at e'
  exact absurd e' (by decide)

/-- The precondition on every device bounds every element of the product of the whole arguments. -/
theorem pre_whole (X : FVec Ideal S4096x4096 .f32) (W : FVec Ideal S4096x2048 .f32)
    (h : ∀ o : Fin 4, Cert.Pre_within_clip_KernelIdeal.fn (F := Ideal)
      (Layout.block ⟨2, ![1024, 4096]⟩ ⟨2, ![4096, 4096]⟩ 0 4 o X) W = fun _ => 1#1) (i : Fin 4096) (j : Fin 2048) :
    max (dotOf X W i j) (-dotOf X W i j) ≤ ((60 : ℝ) : EReal) := by
  have e := pre_row _ W (h ⟨i.val / 1024, by omega⟩) ⟨i.val % 1024, Nat.mod_lt _ (by omega)⟩ j
  have hs : (∑ k : Fin 4096, (show EReal from Layout.block ⟨2, ![1024, 4096]⟩ ⟨2, ![4096, 4096]⟩ 0 4 (⟨i.val / 1024, by omega⟩ : Fin 4) X
      (by decide) (ix2 (⟨i.val % 1024, Nat.mod_lt _ (by omega)⟩ : Fin 1024) k)) * (show EReal from W (ix2 k j))) = dotOf X W i j := by
    refine Finset.sum_congr rfl fun k _ => congrArg (· * _) (congrArg X (funext fun a => Fin.ext ?_))
    match a with
    | ⟨0, _⟩ => show i.val / 1024 * 1024 + i.val % 1024 = i.val; omega
    | ⟨1, _⟩ => rfl
  rw [hs] at e
  exact e

end Cert.ClippedIdeal.Hand

end
-- ==== Proof.lean ====
/-
The proof of `Cert.Claim`. The kernel's runs on the mesh are those of Proof/Kernel and Proof/KernelIdeal, the references'
those of Proof/Reference and Proof/Clipped; the two meet in `wholeOf` (Proof/KernelIdeal/Value), the whole result whose
column blocks the devices end with.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_within_clip_KernelIdeal
public import proofs.«01_k».proof.Proof.Gen.Pre_within_clip_ClippedIdeal
public import proofs.«01_k».proof.Proof.Kernel.Result
public import proofs.«01_k».proof.Proof.KernelIdeal.Result
public import proofs.«01_k».proof.Proof.KernelIdeal.Value
public import proofs.«01_k».proof.Proof.Reference
public import proofs.«01_k».proof.Proof.Clipped

@[expose] public section

noncomputable section

namespace Cert.Proof

open Idealize.ShloMosaic Idealize.SL.Sem
open Cert.KernelIdeal.Hand (wholeOf outAt_eq_block)

/-- The kernel runs, leaves its arguments as they were and every counter at zero; -/
theorem frame_kernel : Cert.quiescent_Kernel := fun m g _ =>
  (θ_run Cert.Kernel.defs _ _).mono (fun _ h => ⟨fun c => (h.1 c).2, h.2⟩) (Cert.Kernel.Hand.run_result (F := Bits) m g)

/-- so does it in exact arithmetic; -/
theorem frame_kernelIdeal : Cert.quiescent_KernelIdeal := fun m g _ =>
  (θ_run Cert.KernelIdeal.defs _ _).mono (fun _ h => ⟨fun c => (h.1 c).2, h.2⟩) (Cert.KernelIdeal.Hand.run_result (F := Ideal) m g)

/-- so does the reference; -/
theorem frame_reference : Cert.quiescent_ReferenceIdeal := fun m g _ =>
  (θ_run Cert.ReferenceIdeal.defs _ _).mono (fun _ h => ⟨fun c => (h.1 c).2, h.2⟩) (Cert.ReferenceIdeal.Hand.run_result m g)

/-- and so does the clipped reference. -/
theorem frame_clipped : Cert.quiescent_ClippedIdeal := fun m g _ => Cert.ClippedIdeal.Hand.run_frame (F := Ideal) m g

/-- The kernel's results are the blocks of columns of the whole result. -/
theorem kernel_blocks (m : (ℓ : Loc Cert.KernelIdeal.nD Cert.KernelIdeal.τ Cert.KernelIdeal.sig) → Buf (Elt Ideal) ℓ)
    (g : Dev Cert.KernelIdeal.nD → PrngReg) (X : FVec Ideal ⟨2, ![4096, 4096]⟩ .f32) (W : FVec Ideal ⟨2, ![4096, 2048]⟩ .f32)
    (h : ∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c X
      ∧ m ((c.tc : Thread Cert.KernelIdeal.nD Cert.KernelIdeal.τ).loc Cert.KernelIdeal.main_arg1) = W) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Layout.block ⟨2, ![4096, 512]⟩ ⟨2, ![4096, 2048]⟩ 1 4 c (wholeOf X W)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun _ hr c => ⟨(hr.1 c).1.trans (outAt_eq_block m X W (fun o => (h o).1) (fun o => (h o).2) c), (hr.1 c).2⟩)
    (Cert.KernelIdeal.Hand.run_result (F := Ideal) m g)

/-- Every device ends with its block of columns of the reference's result. -/
theorem value : Cert.algebraic_KernelIdeal_ReferenceIdeal := fun m g m' g' _ h =>
  ⟨_, kernel_blocks m g _ _ h,
    (θ_run Cert.ReferenceIdeal.defs _ _).mono (fun _ hr => hr.1 0) (Cert.ReferenceIdeal.Hand.run_result m' g')⟩

/-- Every device ends with its block of columns of the clipped reference's result, where no element of the product has a
magnitude over 60. -/
theorem value_clipped : Cert.algebraic_KernelIdeal_ClippedIdeal_pre_within_clip_KernelIdeal := fun m g m' g' hp h => by
  refine ⟨_, kernel_blocks m g _ _ h, (θ_run Cert.ClippedIdeal.defs _ _).mono (fun _ hr => hr 0)
    (Cert.ClippedIdeal.Hand.run_result m' g' fun c => ?_)⟩
  obtain rfl : c = 0 := Subsingleton.elim (α := Fin 1) _ _
  refine Cert.ClippedIdeal.Hand.pre_whole _ _ fun o => ?_
  have e := hp o
  rw [(h o).1, (h o).2] at e
  exact e

/-- Everything the certificate claims. -/
theorem claim : Cert.Claim :=
  ⟨Cert.Kernel.Gen.facts, Cert.KernelIdeal.Gen.facts, Cert.ReferenceIdeal.Gen.facts, Cert.ClippedIdeal.Gen.facts,
    Cert.Pre_within_clip_KernelIdeal.Gen.facts, Cert.Pre_within_clip_ClippedIdeal.Gen.facts,
    frame_kernel, frame_kernelIdeal, fun m g _ => frame_kernelIdeal m g trivial, frame_reference, frame_clipped,
    fun m g _ => frame_clipped m g trivial, trivial, value, value_clipped⟩

end Cert.Proof

end
